-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_

variable [Facts]

def fn {F : FTy → Type} [FloatOps F] (main_arg0 : FVec F S2x256x512 .f32) (main_arg1 : FVec F S512x256 .f32) (main_arg2 : FVec F S2x256x16x64 .f32) (main_arg3 : FVec F S2x256x16x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x16x64 .f32 := Host.absf main_arg2
  let main_cst_2 : FVec F S_ .f32 := constant S_ .f32 0x7F800000#32
  let main_v10 : FVec F S2x256x16x64 .f32 := broadcastInDim S2x256x16x64 ![] bcast_S_S2x256x16x64 main_cst_2
  let main_v11 : IVec S2x256x16x64 1 := cmpf .olt main_v9 main_v10
  let main_c_3 : IVec S_ 1 := constantI S_ 1 1#1
  let main_v12 : IVec S_ 1 := (fun x v => Host.reduce IntOp.andi x v reducesTo_S2x256x16x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x1024x16x64 : S_.BroadcastsInDim S2x1024x16x64 (![] : Fin 0 → Fin S2x1024x16x64.rank)
  reducesTo_S2x1024x16x64_S_d0_1_2_3 : S2x1024x16x64.ReducesTo [0, 1, 2, 3] S_

variable [Facts]

def fn {F : FTy → Type} [FloatOps F] (main_arg0 : FVec F S2x256x512 .f32) (main_arg1 : FVec F S512x1024 .f32) (main_arg2 : FVec F S2x1024x16x64 .f32) (main_arg3 : FVec F S2x1024x16x64 .f32) (main_arg4 : FVec F S1024x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x1024x16x64 .f32 := Host.absf main_arg2
  let main_cst_2 : FVec F S_ .f32 := constant S_ .f32 0x7F800000#32
  let main_v10 : FVec F S2x1024x16x64 .f32 := broadcastInDim S2x1024x16x64 ![] bcast_S_S2x1024x16x64 main_cst_2
  let main_v11 : IVec S2x1024x16x64 1 := cmpf .olt main_v9 main_v10
  let main_c_3 : IVec S_ 1 := constantI S_ 1 1#1
  let main_v12 : IVec S_ 1 := (fun x v => Host.reduce IntOp.andi x v reducesTo_S2x1024x16x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S2x2x256x16x64 : Shape := ⟨5, ![2, 2, 256, 16, 64]⟩
abbrev S4x2x2x256x4x64 : Shape := ⟨6, ![4, 2, 2, 256, 4, 64]⟩
abbrev S512x512 : Shape := ⟨2, ![512, 512]⟩
abbrev S4x128x512 : Shape := ⟨3, ![4, 128, 512]⟩
abbrev S128x512 : Shape := ⟨2, ![128, 512]⟩
abbrev S4 : Shape := ⟨1, ![4]⟩
abbrev S2 : Shape := ⟨1, ![2]⟩
abbrev S_ : Shape := ⟨0, ![]⟩
abbrev S1x2x256x16x64 : Shape := ⟨5, ![1, 2, 256, 16, 64]⟩
abbrev S1 : Shape := ⟨1, ![1]⟩
abbrev S1x2x2x256x4x64 : Shape := ⟨6, ![1, 2, 2, 256, 4, 64]⟩
abbrev S2x2x256x4x64 : Shape := ⟨5, ![2, 2, 256, 4, 64]⟩
abbrev S2x256x4x64 : Shape := ⟨4, ![2, 256, 4, 64]⟩
abbrev S2x4x256x64 : Shape := ⟨4, ![2, 4, 256, 64]⟩
abbrev S8x256x64 : Shape := ⟨3, ![8, 256, 64]⟩
abbrev S256x256 : Shape := ⟨2, ![256, 256]⟩
abbrev S8x256 : Shape := ⟨2, ![8, 256]⟩
abbrev S1x2x256x4x64 : Shape := ⟨5, ![1, 2, 256, 4, 64]⟩
abbrev S8x256x256 : Shape := ⟨3, ![8, 256, 256]⟩
abbrev S1x256x256 : Shape := ⟨3, ![1, 256, 256]⟩
abbrev S8x256x1 : Shape := ⟨3, ![8, 256, 1]⟩
abbrev S1x128x512 : Shape := ⟨3, ![1, 128, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x16x64, .f32⟩
  | .hbm, ⟨3, _⟩ => ⟨S2x256x16x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x16x64, .f32⟩
  | .local _ .vmem, ⟨3, _⟩ => ⟨S2x256x16x64, .f32⟩
  | .local _ .vmem, ⟨4, _⟩ => ⟨S256x512, .f32⟩
  | .local _ .vmem, ⟨5, _⟩ => ⟨S2x256x512, .f32⟩
  | .local _ .vmem, ⟨6, _⟩ => ⟨S2x2x256x16x64, .bf16⟩
  | .local _ .vmem, ⟨7, _⟩ => ⟨S4x2x2x256x4x64, .bf16⟩
  | .local _ .vmem, ⟨8, _⟩ => ⟨S512x512, .bf16⟩
  | .local _ .vmem, ⟨9, _⟩ => ⟨S4x128x512, .bf16⟩
  | .local _ .vmem, ⟨10, _⟩ => ⟨S128x512, .bf16⟩
  | .local _ .vmem, ⟨11, _⟩ => ⟨S4x128x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 5 → Nat :=
  let c0_i32_52 : BitVec 32 := 0#32
  let c0_i32_53 : BitVec 32 := 0#32
  let c0_i32_54 : BitVec 32 := 0#32
  let c4_i32_44 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v55 : BitVec 32 := Scalar.muli c4_i32_44 v2
  let c0_i32_55 : BitVec 32 := 0#32
  ![0, 0, 0, v55.toNat, 0]
def k0_off2 (d0 : Dev nD) (c1_i32_56 : BitVec 32) : Fin 5 → Nat :=
  let c0_i32_74 : BitVec 32 := 0#32
  let c0_i32_75 : BitVec 32 := 0#32
  let c0_i32_76 : BitVec 32 := 0#32
  let c4_i32_63 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : BitVec 32 := Scalar.addi v2 c1_i32_56
  let c4_i32_57 : BitVec 32 := 4#32
  let c0_i32_58 : BitVec 32 := 0#32
  let v62 : BitVec 1 := Scalar.cmpi .eq c4_i32_57 c0_i32_58
  let c1_i32_59 : BitVec 32 := 1#32
  let v63 : BitVec 32 := Scalar.select v62 c1_i32_59 c4_i32_57
  let v64 : BitVec 32 := Scalar.remsi v61 v63
  let c0_i32_61 : BitVec 32 := 0#32
  let v66 : BitVec 1 := Scalar.cmpi .slt v64 c0_i32_61
  let c0_i32_62 : BitVec 32 := 0#32
  let v67 : BitVec 1 := Scalar.cmpi .slt v63 c0_i32_62
  let v68 : BitVec 1 := Scalar.xori v66 v67
  let c0_i32_60 : BitVec 32 := 0#32
  let v65 : BitVec 1 := Scalar.cmpi .ne v64 c0_i32_60
  let v69 : BitVec 1 := Scalar.andi v68 v65
  let v70 : BitVec 32 := Scalar.addi v64 v63
  let v71 : BitVec 32 := Scalar.select v69 v70 v64
  let v72 : BitVec 32 := Scalar.muli c4_i32_63 v71
  let c0_i32_77 : BitVec 32 := 0#32
  ![0, 0, 0, v72.toNat, 0]
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_56 : BitVec 32 := 1#32
  let v61 : BitVec 32 := Scalar.addi v2 c1_i32_56
  let c4_i32_57 : BitVec 32 := 4#32
  let c0_i32_58 : BitVec 32 := 0#32
  let v62 : BitVec 1 := Scalar.cmpi .eq c4_i32_57 c0_i32_58
  let c1_i32_59 : BitVec 32 := 1#32
  let v63 : BitVec 32 := Scalar.select v62 c1_i32_59 c4_i32_57
  let v64 : BitVec 32 := Scalar.remsi v61 v63
  let c0_i32_61 : BitVec 32 := 0#32
  let v66 : BitVec 1 := Scalar.cmpi .slt v64 c0_i32_61
  let c0_i32_62 : BitVec 32 := 0#32
  let v67 : BitVec 1 := Scalar.cmpi .slt v63 c0_i32_62
  let v68 : BitVec 1 := Scalar.xori v66 v67
  let c0_i32_60 : BitVec 32 := 0#32
  let v65 : BitVec 1 := Scalar.cmpi .ne v64 c0_i32_60
  let v69 : BitVec 1 := Scalar.andi v68 v65
  let v70 : BitVec 32 := Scalar.addi v64 v63
  let v71 : BitVec 32 := Scalar.select v69 v70 v64
  let c1_i32_67 : BitVec 32 := 1#32
  let v73 : BitVec 32 := Scalar.muli v71 c1_i32_67
  let v74 : BitVec 32 := Scalar.addi c0_i32_68 v73
  v74.toNat
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_78 : BitVec 32 := 2#32
  let v82 : BitVec 32 := Scalar.addi v2 c2_i32_78
  let c4_i32_79 : BitVec 32 := 4#32
  let c0_i32_80 : BitVec 32 := 0#32
  let v83 : BitVec 1 := Scalar.cmpi .eq c4_i32_79 c0_i32_80
  let c1_i32_81 : BitVec 32 := 1#32
  let v84 : BitVec 32 := Scalar.select v83 c1_i32_81 c4_i32_79
  let v85 : BitVec 32 := Scalar.remsi v82 v84
  let c0_i32_83 : BitVec 32 := 0#32
  let v87 : BitVec 1 := Scalar.cmpi .slt v85 c0_i32_83
  let c0_i32_84 : BitVec 32 := 0#32
  let v88 : BitVec 1 := Scalar.cmpi .slt v84 c0_i32_84
  let v89 : BitVec 1 := Scalar.xori v87 v88
  let c0_i32_82 : BitVec 32 := 0#32
  let v86 : BitVec 1 := Scalar.cmpi .ne v85 c0_i32_82
  let v90 : BitVec 1 := Scalar.andi v89 v86
  let v91 : BitVec 32 := Scalar.addi v85 v84
  let v92 : BitVec 32 := Scalar.select v90 v91 v85
  let c1_i32_89 : BitVec 32 := 1#32
  let v94 : BitVec 32 := Scalar.muli v92 c1_i32_89
  let v95 : BitVec 32 := Scalar.addi c0_i32_90 v94
  v95.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_100 : BitVec 32 := 3#32
  let v103 : BitVec 32 := Scalar.addi v2 c3_i32_100
  let c4_i32_101 : BitVec 32 := 4#32
  let c0_i32_102 : BitVec 32 := 0#32
  let v104 : BitVec 1 := Scalar.cmpi .eq c4_i32_101 c0_i32_102
  let c1_i32_103 : BitVec 32 := 1#32
  let v105 : BitVec 32 := Scalar.select v104 c1_i32_103 c4_i32_101
  let v106 : BitVec 32 := Scalar.remsi v103 v105
  let c0_i32_105 : BitVec 32 := 0#32
  let v108 : BitVec 1 := Scalar.cmpi .slt v106 c0_i32_105
  let c0_i32_106 : BitVec 32 := 0#32
  let v109 : BitVec 1 := Scalar.cmpi .slt v105 c0_i32_106
  let v110 : BitVec 1 := Scalar.xori v108 v109
  let c0_i32_104 : BitVec 32 := 0#32
  let v107 : BitVec 1 := Scalar.cmpi .ne v106 c0_i32_104
  let v111 : BitVec 1 := Scalar.andi v110 v107
  let v112 : BitVec 32 := Scalar.addi v106 v105
  let v113 : BitVec 32 := Scalar.select v111 v112 v106
  let c1_i32_111 : BitVec 32 := 1#32
  let v115 : BitVec 32 := Scalar.muli v113 c1_i32_111
  let v116 : BitVec 32 := Scalar.addi c0_i32_112 v115
  v116.toNat
def k0_off3 (d0 : Dev nD) (c1_i32_270 : BitVec 32) : Fin 2 → Nat :=
  let c128_i32_277 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v373 : BitVec 32 := Scalar.addi v2 c1_i32_270
  let c4_i32_271 : BitVec 32 := 4#32
  let c0_i32_272 : BitVec 32 := 0#32
  let v374 : BitVec 1 := Scalar.cmpi .eq c4_i32_271 c0_i32_272
  let c1_i32_273 : BitVec 32 := 1#32
  let v375 : BitVec 32 := Scalar.select v374 c1_i32_273 c4_i32_271
  let v376 : BitVec 32 := Scalar.remsi v373 v375
  let c0_i32_275 : BitVec 32 := 0#32
  let v378 : BitVec 1 := Scalar.cmpi .slt v376 c0_i32_275
  let c0_i32_276 : BitVec 32 := 0#32
  let v379 : BitVec 1 := Scalar.cmpi .slt v375 c0_i32_276
  let v380 : BitVec 1 := Scalar.xori v378 v379
  let c0_i32_274 : BitVec 32 := 0#32
  let v377 : BitVec 1 := Scalar.cmpi .ne v376 c0_i32_274
  let v381 : BitVec 1 := Scalar.andi v380 v377
  let v382 : BitVec 32 := Scalar.addi v376 v375
  let v383 : BitVec 32 := Scalar.select v381 v382 v376
  let v384 : BitVec 32 := Scalar.muli c128_i32_277 v383
  let c0_i32_285 : BitVec 32 := 0#32
  ![v384.toNat, 0]
def k0_dev7 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_270 : BitVec 32 := 1#32
  let v373 : BitVec 32 := Scalar.addi v2 c1_i32_270
  let c4_i32_271 : BitVec 32 := 4#32
  let c0_i32_272 : BitVec 32 := 0#32
  let v374 : BitVec 1 := Scalar.cmpi .eq c4_i32_271 c0_i32_272
  let c1_i32_273 : BitVec 32 := 1#32
  let v375 : BitVec 32 := Scalar.select v374 c1_i32_273 c4_i32_271
  let v376 : BitVec 32 := Scalar.remsi v373 v375
  let c0_i32_275 : BitVec 32 := 0#32
  let v378 : BitVec 1 := Scalar.cmpi .slt v376 c0_i32_275
  let c0_i32_276 : BitVec 32 := 0#32
  let v379 : BitVec 1 := Scalar.cmpi .slt v375 c0_i32_276
  let v380 : BitVec 1 := Scalar.xori v378 v379
  let c0_i32_274 : BitVec 32 := 0#32
  let v377 : BitVec 1 := Scalar.cmpi .ne v376 c0_i32_274
  let v381 : BitVec 1 := Scalar.andi v380 v377
  let v382 : BitVec 32 := Scalar.addi v376 v375
  let v383 : BitVec 32 := Scalar.select v381 v382 v376
  let c1_i32_281 : BitVec 32 := 1#32
  let v385 : BitVec 32 := Scalar.muli v383 c1_i32_281
  let v386 : BitVec 32 := Scalar.addi c0_i32_282 v385
  v386.toNat
def k0_dev8 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_286 : BitVec 32 := 2#32
  let v394 : BitVec 32 := Scalar.addi v2 c2_i32_286
  let c4_i32_287 : BitVec 32 := 4#32
  let c0_i32_288 : BitVec 32 := 0#32
  let v395 : BitVec 1 := Scalar.cmpi .eq c4_i32_287 c0_i32_288
  let c1_i32_289 : BitVec 32 := 1#32
  let v396 : BitVec 32 := Scalar.select v395 c1_i32_289 c4_i32_287
  let v397 : BitVec 32 := Scalar.remsi v394 v396
  let c0_i32_291 : BitVec 32 := 0#32
  let v399 : BitVec 1 := Scalar.cmpi .slt v397 c0_i32_291
  let c0_i32_292 : BitVec 32 := 0#32
  let v400 : BitVec 1 := Scalar.cmpi .slt v396 c0_i32_292
  let v401 : BitVec 1 := Scalar.xori v399 v400
  let c0_i32_290 : BitVec 32 := 0#32
  let v398 : BitVec 1 := Scalar.cmpi .ne v397 c0_i32_290
  let v402 : BitVec 1 := Scalar.andi v401 v398
  let v403 : BitVec 32 := Scalar.addi v397 v396
  let v404 : BitVec 32 := Scalar.select v402 v403 v397
  let c1_i32_297 : BitVec 32 := 1#32
  let v406 : BitVec 32 := Scalar.muli v404 c1_i32_297
  let v407 : BitVec 32 := Scalar.addi c0_i32_298 v406
  v407.toNat
def k0_dev9 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_302 : BitVec 32 := 3#32
  let v415 : BitVec 32 := Scalar.addi v2 c3_i32_302
  let c4_i32_303 : BitVec 32 := 4#32
  let c0_i32_304 : BitVec 32 := 0#32
  let v416 : BitVec 1 := Scalar.cmpi .eq c4_i32_303 c0_i32_304
  let c1_i32_305 : BitVec 32 := 1#32
  let v417 : BitVec 32 := Scalar.select v416 c1_i32_305 c4_i32_303
  let v418 : BitVec 32 := Scalar.remsi v415 v417
  let c0_i32_307 : BitVec 32 := 0#32
  let v420 : BitVec 1 := Scalar.cmpi .slt v418 c0_i32_307
  let c0_i32_308 : BitVec 32 := 0#32
  let v421 : BitVec 1 := Scalar.cmpi .slt v417 c0_i32_308
  let v422 : BitVec 1 := Scalar.xori v420 v421
  let c0_i32_306 : BitVec 32 := 0#32
  let v419 : BitVec 1 := Scalar.cmpi .ne v418 c0_i32_306
  let v423 : BitVec 1 := Scalar.andi v422 v419
  let v424 : BitVec 32 := Scalar.addi v418 v417
  let v425 : BitVec 32 := Scalar.select v423 v424 v418
  let c1_i32_313 : BitVec 32 := 1#32
  let v427 : BitVec 32 := Scalar.muli v425 c1_i32_313
  let v428 : BitVec 32 := Scalar.addi c0_i32_314 v427
  v428.toNat
def k0_off4 (d0 : Dev nD) : Fin 2 → Nat :=
  let c128_i32_369 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v493 : BitVec 32 := Scalar.muli c128_i32_369 v2
  let v494 : Index := Scalar.indexCast v493
  let c0_370 : Index := 0#32
  ![v494.toNat, 0]
def k0_dev10 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_382 : BitVec 32 := 1#32
  let v513 : BitVec 32 := Scalar.addi v2 c1_i32_382
  let c4_i32_383 : BitVec 32 := 4#32
  let c0_i32_384 : BitVec 32 := 0#32
  let v514 : BitVec 1 := Scalar.cmpi .eq c4_i32_383 c0_i32_384
  let c1_i32_385 : BitVec 32 := 1#32
  let v515 : BitVec 32 := Scalar.select v514 c1_i32_385 c4_i32_383
  let v516 : BitVec 32 := Scalar.remsi v513 v515
  let c0_i32_387 : BitVec 32 := 0#32
  let v518 : BitVec 1 := Scalar.cmpi .slt v516 c0_i32_387
  let c0_i32_388 : BitVec 32 := 0#32
  let v519 : BitVec 1 := Scalar.cmpi .slt v515 c0_i32_388
  let v520 : BitVec 1 := Scalar.xori v518 v519
  let c0_i32_386 : BitVec 32 := 0#32
  let v517 : BitVec 1 := Scalar.cmpi .ne v516 c0_i32_386
  let v521 : BitVec 1 := Scalar.andi v520 v517
  let v522 : BitVec 32 := Scalar.addi v516 v515
  let v523 : BitVec 32 := Scalar.select v521 v522 v516
  let c1_i32_392 : BitVec 32 := 1#32
  let v524 : BitVec 32 := Scalar.muli v523 c1_i32_392
  let v525 : BitVec 32 := Scalar.addi c0_i32_393 v524
  v525.toNat
def k0_dev11 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_396 : BitVec 32 := 2#32
  let v532 : BitVec 32 := Scalar.addi v2 c2_i32_396
  let c4_i32_397 : BitVec 32 := 4#32
  let c0_i32_398 : BitVec 32 := 0#32
  let v533 : BitVec 1 := Scalar.cmpi .eq c4_i32_397 c0_i32_398
  let c1_i32_399 : BitVec 32 := 1#32
  let v534 : BitVec 32 := Scalar.select v533 c1_i32_399 c4_i32_397
  let v535 : BitVec 32 := Scalar.remsi v532 v534
  let c0_i32_401 : BitVec 32 := 0#32
  let v537 : BitVec 1 := Scalar.cmpi .slt v535 c0_i32_401
  let c0_i32_402 : BitVec 32 := 0#32
  let v538 : BitVec 1 := Scalar.cmpi .slt v534 c0_i32_402
  let v539 : BitVec 1 := Scalar.xori v537 v538
  let c0_i32_400 : BitVec 32 := 0#32
  let v536 : BitVec 1 := Scalar.cmpi .ne v535 c0_i32_400
  let v540 : BitVec 1 := Scalar.andi v539 v536
  let v541 : BitVec 32 := Scalar.addi v535 v534
  let v542 : BitVec 32 := Scalar.select v540 v541 v535
  let c1_i32_406 : BitVec 32 := 1#32
  let v543 : BitVec 32 := Scalar.muli v542 c1_i32_406
  let v544 : BitVec 32 := Scalar.addi c0_i32_407 v543
  v544.toNat
def k0_dev12 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_410 : BitVec 32 := 3#32
  let v551 : BitVec 32 := Scalar.addi v2 c3_i32_410
  let c4_i32_411 : BitVec 32 := 4#32
  let c0_i32_412 : BitVec 32 := 0#32
  let v552 : BitVec 1 := Scalar.cmpi .eq c4_i32_411 c0_i32_412
  let c1_i32_413 : BitVec 32 := 1#32
  let v553 : BitVec 32 := Scalar.select v552 c1_i32_413 c4_i32_411
  let v554 : BitVec 32 := Scalar.remsi v551 v553
  let c0_i32_415 : BitVec 32 := 0#32
  let v556 : BitVec 1 := Scalar.cmpi .slt v554 c0_i32_415
  let c0_i32_416 : BitVec 32 := 0#32
  let v557 : BitVec 1 := Scalar.cmpi .slt v553 c0_i32_416
  let v558 : BitVec 1 := Scalar.xori v556 v557
  let c0_i32_414 : BitVec 32 := 0#32
  let v555 : BitVec 1 := Scalar.cmpi .ne v554 c0_i32_414
  let v559 : BitVec 1 := Scalar.andi v558 v555
  let v560 : BitVec 32 := Scalar.addi v554 v553
  let v561 : BitVec 32 := Scalar.select v559 v560 v554
  let c1_i32_420 : BitVec 32 := 1#32
  let v562 : BitVec 32 := Scalar.muli v561 c1_i32_420
  let v563 : BitVec 32 := Scalar.addi c0_i32_421 v562
  v563.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_425 : BitVec 32 := 0#32
  let v571 : BitVec 1 := Scalar.cmpi .sgt v2 c0_i32_425
  let v572 : BitVec 32 := Scalar.extui v571
  let c0_i32_426 : BitVec 32 := 0#32
  let v573 : BitVec 1 := Scalar.cmpi .slt v2 c0_i32_426
  let v574 : BitVec 32 := Scalar.extui v573
  let v575 : BitVec 32 := Scalar.subi v572 v574
  let c2_i32_424 : BitVec 32 := 2#32
  let c0_i32_427 : BitVec 32 := 0#32
  let v576 : BitVec 1 := Scalar.cmpi .sgt c2_i32_424 c0_i32_427
  let v577 : BitVec 32 := Scalar.extui v576
  let c0_i32_428 : BitVec 32 := 0#32
  let v578 : BitVec 1 := Scalar.cmpi .slt c2_i32_424 c0_i32_428
  let v579 : BitVec 32 := Scalar.extui v578
  let v580 : BitVec 32 := Scalar.subi v577 v579
  let v581 : BitVec 1 := Scalar.cmpi .ne v575 v580
  let v582 : BitVec 32 := Scalar.remsi v2 c2_i32_424
  let c0_i32_429 : BitVec 32 := 0#32
  let v583 : BitVec 1 := Scalar.cmpi .ne v582 c0_i32_429
  let v584 : BitVec 1 := Scalar.andi v581 v583
  let v570 : BitVec 32 := Scalar.divsi v2 c2_i32_424
  let c1_i32_430 : BitVec 32 := 1#32
  let v585 : BitVec 32 := Scalar.subi v570 c1_i32_430
  let v586 : BitVec 32 := Scalar.select v584 v585 v570
  let v598 : Index := Scalar.indexCast v586
  let c2_i32_431 : BitVec 32 := 2#32
  let c0_i32_432 : BitVec 32 := 0#32
  let v587 : BitVec 1 := Scalar.cmpi .eq c2_i32_431 c0_i32_432
  let c1_i32_433 : BitVec 32 := 1#32
  let v588 : BitVec 32 := Scalar.select v587 c1_i32_433 c2_i32_431
  let v589 : BitVec 32 := Scalar.remsi v2 v588
  let c0_i32_435 : BitVec 32 := 0#32
  let v591 : BitVec 1 := Scalar.cmpi .slt v589 c0_i32_435
  let c0_i32_436 : BitVec 32 := 0#32
  let v592 : BitVec 1 := Scalar.cmpi .slt v588 c0_i32_436
  let v593 : BitVec 1 := Scalar.xori v591 v592
  let c0_i32_434 : BitVec 32 := 0#32
  let v590 : BitVec 1 := Scalar.cmpi .ne v589 c0_i32_434
  let v594 : BitVec 1 := Scalar.andi v593 v590
  let v595 : BitVec 32 := Scalar.addi v589 v588
  let v596 : BitVec 32 := Scalar.select v594 v595 v589
  let c128_i32_437 : BitVec 32 := 128#32
  let v597 : BitVec 32 := Scalar.muli v596 c128_i32_437
  let v599 : Index := Scalar.indexCast v597
  let c0_438 : Index := 0#32
  ![v598.toNat, v599.toNat, 0]
def k0_off6 (d0 : Dev nD) (c1_i32_456 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v622 : BitVec 32 := Scalar.subi v2 c1_i32_456
  let c4_i32_457 : BitVec 32 := 4#32
  let c0_i32_458 : BitVec 32 := 0#32
  let v623 : BitVec 1 := Scalar.cmpi .eq c4_i32_457 c0_i32_458
  let c1_i32_459 : BitVec 32 := 1#32
  let v624 : BitVec 32 := Scalar.select v623 c1_i32_459 c4_i32_457
  let v625 : BitVec 32 := Scalar.remsi v622 v624
  let c0_i32_461 : BitVec 32 := 0#32
  let v627 : BitVec 1 := Scalar.cmpi .slt v625 c0_i32_461
  let c0_i32_462 : BitVec 32 := 0#32
  let v628 : BitVec 1 := Scalar.cmpi .slt v624 c0_i32_462
  let v629 : BitVec 1 := Scalar.xori v627 v628
  let c0_i32_460 : BitVec 32 := 0#32
  let v626 : BitVec 1 := Scalar.cmpi .ne v625 c0_i32_460
  let v630 : BitVec 1 := Scalar.andi v629 v626
  let v631 : BitVec 32 := Scalar.addi v625 v624
  let v632 : BitVec 32 := Scalar.select v630 v631 v625
  let c0_i32_467 : BitVec 32 := 0#32
  let v637 : BitVec 1 := Scalar.cmpi .sgt v632 c0_i32_467
  let v638 : BitVec 32 := Scalar.extui v637
  let c0_i32_468 : BitVec 32 := 0#32
  let v639 : BitVec 1 := Scalar.cmpi .slt v632 c0_i32_468
  let v640 : BitVec 32 := Scalar.extui v639
  let v641 : BitVec 32 := Scalar.subi v638 v640
  let c2_i32_466 : BitVec 32 := 2#32
  let c0_i32_469 : BitVec 32 := 0#32
  let v642 : BitVec 1 := Scalar.cmpi .sgt c2_i32_466 c0_i32_469
  let v643 : BitVec 32 := Scalar.extui v642
  let c0_i32_470 : BitVec 32 := 0#32
  let v644 : BitVec 1 := Scalar.cmpi .slt c2_i32_466 c0_i32_470
  let v645 : BitVec 32 := Scalar.extui v644
  let v646 : BitVec 32 := Scalar.subi v643 v645
  let v647 : BitVec 1 := Scalar.cmpi .ne v641 v646
  let v648 : BitVec 32 := Scalar.remsi v632 c2_i32_466
  let c0_i32_471 : BitVec 32 := 0#32
  let v649 : BitVec 1 := Scalar.cmpi .ne v648 c0_i32_471
  let v650 : BitVec 1 := Scalar.andi v647 v649
  let v636 : BitVec 32 := Scalar.divsi v632 c2_i32_466
  let c1_i32_472 : BitVec 32 := 1#32
  let v651 : BitVec 32 := Scalar.subi v636 c1_i32_472
  let v652 : BitVec 32 := Scalar.select v650 v651 v636
  let v664 : Index := Scalar.indexCast v652
  let c2_i32_473 : BitVec 32 := 2#32
  let c0_i32_474 : BitVec 32 := 0#32
  let v653 : BitVec 1 := Scalar.cmpi .eq c2_i32_473 c0_i32_474
  let c1_i32_475 : BitVec 32 := 1#32
  let v654 : BitVec 32 := Scalar.select v653 c1_i32_475 c2_i32_473
  let v655 : BitVec 32 := Scalar.remsi v632 v654
  let c0_i32_477 : BitVec 32 := 0#32
  let v657 : BitVec 1 := Scalar.cmpi .slt v655 c0_i32_477
  let c0_i32_478 : BitVec 32 := 0#32
  let v658 : BitVec 1 := Scalar.cmpi .slt v654 c0_i32_478
  let v659 : BitVec 1 := Scalar.xori v657 v658
  let c0_i32_476 : BitVec 32 := 0#32
  let v656 : BitVec 1 := Scalar.cmpi .ne v655 c0_i32_476
  let v660 : BitVec 1 := Scalar.andi v659 v656
  let v661 : BitVec 32 := Scalar.addi v655 v654
  let v662 : BitVec 32 := Scalar.select v660 v661 v655
  let c128_i32_479 : BitVec 32 := 128#32
  let v663 : BitVec 32 := Scalar.muli v662 c128_i32_479
  let v665 : Index := Scalar.indexCast v663
  let c0_480 : Index := 0#32
  ![v664.toNat, v665.toNat, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S2x256x1024 : Shape := ⟨3, ![2, 256, 1024]⟩
abbrev S2x256x16x64 : Shape := ⟨4, ![2, 256, 16, 64]⟩
abbrev S256 : Shape := ⟨1, ![256]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S_ : Shape := ⟨0, ![]⟩
abbrev S2x16x256x1024 : Shape := ⟨4, ![2, 16, 256, 1024]⟩
abbrev S1x1x256x1024 : Shape := ⟨4, ![1, 1, 256, 1024]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x1024x16x64, .f32⟩
  | .hbm, ⟨3, _⟩ => ⟨S2x1024x16x64, .f32⟩
  | .hbm, ⟨4, _⟩ => ⟨S1024x512, .f32⟩
  | .hbm, ⟨5, _⟩ => ⟨S2x256x1024, .f32⟩
  | .hbm, ⟨6, _⟩ => ⟨S2x256x16x64, .f32⟩
  | .hbm, ⟨7, _⟩ => ⟨S256, .i32⟩
  | .hbm, ⟨8, _⟩ => ⟨S256x1, .i32⟩
  | .hbm, ⟨9, _⟩ => ⟨S1024, .i32⟩
  | .hbm, ⟨10, _⟩ => ⟨S1x1024, .i32⟩
  | .hbm, ⟨11, _⟩ => ⟨S256x1024, .i32⟩
  | .hbm, ⟨12, _⟩ => ⟨S256x1024, .i32⟩
  | .hbm, ⟨13, _⟩ => ⟨S256x1024, .i32⟩
  | .hbm, ⟨14, _⟩ => ⟨S256x1024, .i32⟩
  | .hbm, ⟨15, _⟩ => ⟨S_, .i32⟩
  | .hbm, ⟨16, _⟩ => ⟨S256x1024, .i32⟩
  | .hbm, ⟨17, _⟩ => ⟨S256x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x1024, .i1⟩
  | .hbm, ⟨25, _⟩ => ⟨S256x1024, .i1⟩
  | .hbm, ⟨26, _⟩ => ⟨S256x1024, .i1⟩
  | .hbm, ⟨27, _⟩ => ⟨S256x1024, .i1⟩
  | .hbm, ⟨28, _⟩ => ⟨S2x16x256x1024, .f32⟩
  | .hbm, ⟨29, _⟩ => ⟨S_, .f32⟩
  | .hbm, ⟨30, _⟩ => ⟨S2x16x256x1024, .f32⟩
  | .hbm, ⟨31, _⟩ => ⟨S2x16x256x1024, .f32⟩
  | .hbm, ⟨32, _⟩ => ⟨S1x1x256x1024, .i1⟩
  | .hbm, ⟨33, _⟩ => ⟨S_, .f32⟩
  | .hbm, ⟨34, _⟩ => ⟨S_, .f32⟩
  | .hbm, ⟨35, _⟩ => ⟨S2x16x256x1024, .i1⟩
  | .hbm, ⟨36, _⟩ => ⟨S2x16x256x1024, .f32⟩
  | .hbm, ⟨37, _⟩ => ⟨S2x16x256x1024, .f32⟩
  | .hbm, ⟨38, _⟩ => ⟨S_, .f32⟩
  | .hbm, ⟨39, _⟩ => ⟨S2x16x256, .f32⟩
  | .hbm, ⟨40, _⟩ => ⟨S2x16x256x1, .f32⟩
  | .hbm, ⟨41, _⟩ => ⟨S2x16x256x1024, .f32⟩
  | .hbm, ⟨42, _⟩ => ⟨S2x16x256x1024, .f32⟩
  | .hbm, ⟨43, _⟩ => ⟨S2x16x256x1024, .f32⟩
  | .hbm, ⟨44, _⟩ => ⟨S_, .i1⟩
  | .hbm, ⟨45, _⟩ => ⟨S256, .i1⟩
  | .hbm, ⟨46, _⟩ => ⟨S1x1x256x1, .i1⟩
  | .hbm, ⟨47, _⟩ => ⟨S_, .f32⟩
  | .hbm, ⟨48, _⟩ => ⟨S2x16x256, .f32⟩
  | .hbm, ⟨49, _⟩ => ⟨S2x16x256x1, .f32⟩
  | .hbm, ⟨50, _⟩ => ⟨S_, .f32⟩
  | .hbm, ⟨51, _⟩ => ⟨S_, .f32⟩
  | .hbm, ⟨52, _⟩ => ⟨S2x16x256x1, .i1⟩
  | .hbm, ⟨53, _⟩ => ⟨S2x16x256x1, .f32⟩
  | .hbm, ⟨54, _⟩ => ⟨S2x16x256x1, .f32⟩
  | .hbm, ⟨55, _⟩ => ⟨S2x16x256x1024, .f32⟩
  | .hbm, ⟨56, _⟩ => ⟨S2x16x256x1024, .f32⟩
  | .hbm, ⟨57, _⟩ => ⟨S1x1x256x1, .i1⟩
  | .hbm, ⟨58, _⟩ => ⟨S_, .f32⟩
  | .hbm, ⟨59, _⟩ => ⟨S_, .f32⟩
  | .hbm, ⟨60, _⟩ => ⟨S2x16x256x1024, .i1⟩
  | .hbm, ⟨61, _⟩ => ⟨S2x16x256x1024, .f32⟩
  | .hbm, ⟨62, _⟩ => ⟨S2x16x256x1024, .f32⟩
  | .hbm, ⟨63, _⟩ => ⟨S2x16x64x256, .f32⟩
  | .hbm, ⟨64, _⟩ => ⟨S2x256x16x64, .f32⟩
  | .hbm, ⟨65, _⟩ => ⟨S2x256x1024, .f32⟩
  | .hbm, ⟨66, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.IdealProto.lean ====
/-
# The exchange protocol of the kernel

Four devices; each of them runs the same body.  Device `c` tells the three others on the barrier semaphore that its
landing slots may be written, waits for the three notices of the others, and then exchanges three kinds of blocks:
key/value blocks (`kv`), partial products (`rs`) and reduced rows (`ag`).  For every kind and every distance
`d = 1, 2, 3` device `c` sends to device `c + d`, slot `d` of the receiver.

This file states who pays which semaphore how much, and with which contents each landing slot is handed over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ValueIdx
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resource algebra: the pipeline's copy and the protocol's, whose duties are named `0 … 3` -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The semaphores of the protocol -/

/-- The barrier semaphore of the kernel. -/
abbrev barS : Sem sig := (SemArray.scalar (sig.barrier 0 rfl) : Sems sig S_).sem

/-- Entry `1` of a four-entry array of DMA semaphores, and so on. -/
abbrev at1 (a : DmaSems sig S4) : DmaSem sig := ((a.slice (Rect.unit (s := S4) ![1] S1.size inb_S4_S1_1)).squeeze S_ squeezes_S1_S_).sem
abbrev at2 (a : DmaSems sig S4) : DmaSem sig := ((a.slice (Rect.unit (s := S4) ![2] S1.size inb_S4_S1_2)).squeeze S_ squeezes_S1_S_).sem
abbrev at3 (a : DmaSems sig S4) : DmaSem sig := ((a.slice (Rect.unit (s := S4) ![3] S1.size inb_S4_S1_3)).squeeze S_ squeezes_S1_S_).sem

/-- The semaphore of the copy that stays on the device. -/
abbrev locS : DmaSem sig := ((cc0_scratch12.slice (Rect.unit (s := S2) ![0] S1.size inb_S2_S1_0)).squeeze S_ squeezes_S1_S_).sem

/-- The twenty semaphores of a device that the protocol uses: the barrier, the one of the copy that stays, and per kind
    (`kv`, `rs`, `ag`) three for the blocks sent and three for the blocks received. -/
def sl : Fin 20 → SemLoc sig :=
  ![.reg barS, .dma locS,
    .dma (at1 cc0_scratch6), .dma (at2 cc0_scratch6), .dma (at3 cc0_scratch6),
    .dma (at1 cc0_scratch7), .dma (at2 cc0_scratch7), .dma (at3 cc0_scratch7),
    .dma (at1 cc0_scratch8), .dma (at2 cc0_scratch8), .dma (at3 cc0_scratch8),
    .dma (at1 cc0_scratch9), .dma (at2 cc0_scratch9), .dma (at3 cc0_scratch9),
    .dma (at1 cc0_scratch10), .dma (at2 cc0_scratch10), .dma (at3 cc0_scratch10),
    .dma (at1 cc0_scratch11), .dma (at2 cc0_scratch11), .dma (at3 cc0_scratch11)]

/-- The twenty semaphores are different ones. -/
theorem sl_inj : Function.Injective sl := by decide

/-- Which of the twenty a semaphore is, if any. -/
def idx (s : SemLoc sig) : Option (Fin 20) := (List.finRange 20).find? fun k => decide (sl k = s)

theorem idx_sl (k : Fin 20) : idx (sl k) = some k := by revert k; decide

/-- Semaphore `k` of device `c`. -/
abbrev cell (c : Dev nD) (k : Fin 20) : GSem nD τ sig := ((c : Thread nD τ), sl k)

/-! ## The amounts -/

/-- The bytes a key/value block is counted as. -/
def Nkv : ℕ := cc0_scratch1.dmaCredit S2x2x256x4x64 .bf16
/-- The bytes a block of 128 rows is counted as. -/
def Nrow : ℕ := cc0_scratch3.dmaCredit S128x512 .bf16

theorem Nkv_kvs : cc0_scratch0.dmaCredit S2x2x256x4x64 .bf16 = Nkv := rfl
theorem Nrow_pb : cc0_scratch2.dmaCredit S128x512 .bf16 = Nrow := rfl
theorem Nrow_red : cc0_scratch4.dmaCredit S128x512 .bf16 = Nrow := rfl
theorem Nrow_ag : cc0_scratch5.dmaCredit S128x512 .bf16 = Nrow := rfl
theorem Nkv_pos : 0 < Nkv := by decide
theorem Nrow_pos : 0 < Nrow := by decide

/-- What one payment of semaphore `k` amounts to. -/
def amt (k : Fin 20) : ℕ := if k.val = 0 then 1 else if k.val < 8 then Nkv else Nrow

theorem amt_pos (k : Fin 20) : 0 < amt k := by
  unfold amt
  split
  · exact Nat.one_pos
  · split
    · exact Nkv_pos
    · exact Nrow_pos

/-! ## The ring of devices -/

/-- The destinations the kernel computes: `1`, `2`, `3` devices further on. -/
theorem dev1_eq (c : Dev nD) : (⟨k0_dev1 c, k0_dev1_lt c⟩ : Dev nD) = c + 1 := by revert c; decide
theorem dev2_eq (c : Dev nD) : (⟨k0_dev2 c, k0_dev2_lt c⟩ : Dev nD) = c + 2 := by revert c; decide
theorem dev3_eq (c : Dev nD) : (⟨k0_dev3 c, k0_dev3_lt c⟩ : Dev nD) = c + 3 := by revert c; decide
theorem dev4_eq (c : Dev nD) : (⟨k0_dev4 c, k0_dev4_lt c⟩ : Dev nD) = c + 1 := by revert c; decide
theorem dev5_eq (c : Dev nD) : (⟨k0_dev5 c, k0_dev5_lt c⟩ : Dev nD) = c + 2 := by revert c; decide
theorem dev6_eq (c : Dev nD) : (⟨k0_dev6 c, k0_dev6_lt c⟩ : Dev nD) = c + 3 := by revert c; decide
theorem dev7_eq (c : Dev nD) : (⟨k0_dev7 c, k0_dev7_lt c⟩ : Dev nD) = c + 1 := by revert c; decide
theorem dev8_eq (c : Dev nD) : (⟨k0_dev8 c, k0_dev8_lt c⟩ : Dev nD) = c + 2 := by revert c; decide
theorem dev9_eq (c : Dev nD) : (⟨k0_dev9 c, k0_dev9_lt c⟩ : Dev nD) = c + 3 := by revert c; decide
theorem dev10_eq (c : Dev nD) : (⟨k0_dev10 c, k0_dev10_lt c⟩ : Dev nD) = c + 1 := by revert c; decide
theorem dev11_eq (c : Dev nD) : (⟨k0_dev11 c, k0_dev11_lt c⟩ : Dev nD) = c + 2 := by revert c; decide
theorem dev12_eq (c : Dev nD) : (⟨k0_dev12 c, k0_dev12_lt c⟩ : Dev nD) = c + 3 := by revert c; decide

/-- The head block sent `d` devices further on starts at head `4 (c + d)`. -/
theorem off2_eq (c : Dev nD) (r : Fin 3) : k0_off2 c (BitVec.ofNat 32 (1 + r.val)) = ![0, 0, 0, 4 * ((c.val + 1 + r.val) % 4), 0] := by
  revert c r; decide +kernel
/-- The row block sent `d` devices further on starts at row `128 (c + d)`. -/
theorem off3_eq (c : Dev nD) (r : Fin 3) : k0_off3 c (BitVec.ofNat 32 (1 + r.val)) = ![128 * ((c.val + 1 + r.val) % 4), 0] := by
  revert c r; decide +kernel
/-- The device's own rows of the result. -/
theorem off5_eq (c : Dev nD) : k0_off5 c = ![c.val / 2, 128 * (c.val % 2), 0] := by revert c; decide +kernel
/-- The rows of the result that come from the device `d` places back. -/
theorem off6_eq (c : Dev nD) (r : Fin 3) : k0_off6 c (BitVec.ofNat 32 (1 + r.val))
    = ![((c.val + 3 - r.val) % 4) / 2, 128 * (((c.val + 3 - r.val) % 4) % 2), 0] := by
  revert c r; decide +kernel

/-! ## The contents -/

/-- What device `c` finds in its five input windows. -/
def in0 (c : Dev nD) : Vec F S2x256x512 .f32 := (win0_0.blk (0 : Fin 1)).view.read (Elt F) (m ((c : Thread nD τ).loc main_arg0))
def in1 (c : Dev nD) : Vec F S512x256 .f32 := (win0_1.blk (0 : Fin 1)).view.read (Elt F) (m ((c : Thread nD τ).loc main_arg1))
def in2 (c : Dev nD) : Vec F S2x256x16x64 .f32 := (win0_2.blk (0 : Fin 1)).view.read (Elt F) (m ((c : Thread nD τ).loc main_arg2))
def in3 (c : Dev nD) : Vec F S2x256x16x64 .f32 := (win0_3.blk (0 : Fin 1)).view.read (Elt F) (m ((c : Thread nD τ).loc main_arg3))
def in4 (c : Dev nD) : Vec F S256x512 .f32 := (win0_4.blk (0 : Fin 1)).view.read (Elt F) (m ((c : Thread nD τ).loc main_arg4))

/-- The device's keys and values in the narrow format, all heads. -/
def kvsV (c : Dev nD) : Vec F S2x2x256x16x64 .bf16 := fun i =>
  if (i 0).val = 0 then k0_pay1 (in2 m c) (ix5 0 (i 1) (i 2) (i 3) (i 4)) else k0_pay2 (in3 m c) (ix5 0 (i 1) (i 2) (i 3) (i 4))

/-- The landing buffer of keys and values: slot `d` holds the own heads of the keys and values of the device `d` back. -/
def kvfV (c : Dev nD) : Vec F S4x2x2x256x4x64 .bf16 := fun i =>
  kvsV m (c - ⟨(i 0).val, (i 0).isLt⟩) (ix5 (i 1) (i 2) (i 3) ⟨4 * c.val + (i 4).val, by have h1 : (i 4).val < 4 := (i 4).isLt; have h2 : c.val < 4 := c.isLt; omega⟩ (i 5))

/-- The rectangle of slot `d` of the landing buffer of keys and values. -/
abbrev r7_0 : Rect S4x2x2x256x4x64 := Rect.unit (s := S4x2x2x256x4x64) ![0, 0, 0, 0, 0, 0] S1x2x2x256x4x64.size inb_S4x2x2x256x4x64_S1x2x2x256x4x64_0_0_0_0_0_0
abbrev r7_1 : Rect S4x2x2x256x4x64 := Rect.unit (s := S4x2x2x256x4x64) ![1, 0, 0, 0, 0, 0] S1x2x2x256x4x64.size inb_S4x2x2x256x4x64_S1x2x2x256x4x64_1_0_0_0_0_0
abbrev r7_2 : Rect S4x2x2x256x4x64 := Rect.unit (s := S4x2x2x256x4x64) ![2, 0, 0, 0, 0, 0] S1x2x2x256x4x64.size inb_S4x2x2x256x4x64_S1x2x2x256x4x64_2_0_0_0_0_0
abbrev r7_3 : Rect S4x2x2x256x4x64 := Rect.unit (s := S4x2x2x256x4x64) ![3, 0, 0, 0, 0, 0] S1x2x2x256x4x64.size inb_S4x2x2x256x4x64_S1x2x2x256x4x64_3_0_0_0_0_0

/-- The four loads of it. -/
def ld7_0 (c : Dev nD) : Vec F S1x2x2x256x4x64 .bf16 := (Memref.whole cc0_scratch1).view.readAt (Elt F) r7_0.toLoadRect (kvfV m c)
def ld7_1 (c : Dev nD) : Vec F S1x2x2x256x4x64 .bf16 := (Memref.whole cc0_scratch1).view.readAt (Elt F) r7_1.toLoadRect (kvfV m c)
def ld7_2 (c : Dev nD) : Vec F S1x2x2x256x4x64 .bf16 := (Memref.whole cc0_scratch1).view.readAt (Elt F) r7_2.toLoadRect (kvfV m c)
def ld7_3 (c : Dev nD) : Vec F S1x2x2x256x4x64 .bf16 := (Memref.whole cc0_scratch1).view.readAt (Elt F) r7_3.toLoadRect (kvfV m c)

/-- The device's place as the kernel computes it, and the places one and three back. -/
def myW (c : Dev nD) : BitVec 32 := Scalar.remsi (Scalar.divsi (Dev.word c) 1#32) 4#32
def backW (c : Dev nD) (d : BitVec 32) : BitVec 32 :=
  let v200 : BitVec 32 := Scalar.subi (myW c) d
  let v201 : BitVec 1 := Scalar.cmpi .eq 4#32 0#32
  let v202 : BitVec 32 := Scalar.select v201 1#32 4#32
  let v203 : BitVec 32 := Scalar.remsi v200 v202
  let v204 : BitVec 1 := Scalar.cmpi .ne v203 0#32
  let v205 : BitVec 1 := Scalar.cmpi .slt v203 0#32
  let v206 : BitVec 1 := Scalar.cmpi .slt v202 0#32
  let v207 : BitVec 1 := Scalar.xori v205 v206
  let v208 : BitVec 1 := Scalar.andi v207 v204
  let v209 : BitVec 32 := Scalar.addi v203 v202
  Scalar.select v208 v209 v203

/-- Row and column numbers of a score block. -/
abbrev rowN : IVec S256x256 32 := iota .tc S256x256 32 [0] iota_S256x256_d0_w32
abbrev colN : IVec S256x256 32 := iota .tc S256x256 32 [1] iota_S256x256_d1_w32

/-- The device's queries. -/
def qb (c : Dev nD) : FVec F S8x256x64 .bf16 := k0_pay3 (in0 m c) (in1 m c)

/-- Running sums of the softmax weights and of the weighted values after one, two and three key blocks. -/
def sum1 (c : Dev nD) : FVec F S8x256 .f32 :=
  k0_pay12 rowN k0_pay5 (k0_pay8 (qb m c) (ld7_0 m c)) (k0_pay9 (myW c) rowN colN) k0_pay10
def acc1 (c : Dev nD) : FVec F S8x256x64 .f32 :=
  k0_pay13 rowN k0_pay4 (k0_pay7 (ld7_0 m c)) (k0_pay8 (qb m c) (ld7_0 m c)) (k0_pay9 (myW c) rowN colN) k0_pay10
def sum2 (c : Dev nD) : FVec F S8x256 .f32 := k0_pay16 (qb m c) rowN colN (sum1 m c) (backW c 1#32) (ld7_1 m c)
def acc2 (c : Dev nD) : FVec F S8x256x64 .f32 := k0_pay17 (qb m c) rowN colN (acc1 m c) (backW c 1#32) (ld7_1 m c)
def sum3 (c : Dev nD) : FVec F S8x256 .f32 :=
  k0_pay25 rowN (sum2 m c) (k0_pay20 (qb m c) (ld7_2 m c)) (k0_pay21 (myW c) colN) (k0_pay22 (myW c) rowN colN) k0_pay23
def acc3 (c : Dev nD) : FVec F S8x256x64 .f32 :=
  k0_pay26 rowN (acc2 m c) (k0_pay19 (ld7_2 m c)) (k0_pay20 (qb m c) (ld7_2 m c)) (k0_pay21 (myW c) colN) (k0_pay22 (myW c) rowN colN) k0_pay23

/-- The device's attention output. -/
def ctx (c : Dev nD) : FVec F S512x256 .bf16 := k0_pay27 (qb m c) rowN colN (sum3 m c) (acc3 m c) (backW c 3#32) (ld7_3 m c)

/-- The device's partial product. -/
def pbV (c : Dev nD) : Vec F S512x512 .bf16 := k0_pay28 (ctx m c) (in4 m c)

/-- The landing buffer of partial products: slot `d` holds the own rows of the product of the device `d` back. -/
def rsV (c : Dev nD) : Vec F S4x128x512 .bf16 := fun i =>
  pbV m (c - ⟨(i 0).val, (i 0).isLt⟩) (ix2 ⟨128 * c.val + (i 1).val, by have h1 : (i 1).val < 128 := (i 1).isLt; have h2 : c.val < 4 := c.isLt; omega⟩ (i 2))

abbrev r9_1 : Rect S4x128x512 := Rect.unit (s := S4x128x512) ![1, 0, 0] S1x128x512.size inb_S4x128x512_S1x128x512_1_0_0
abbrev r9_2 : Rect S4x128x512 := Rect.unit (s := S4x128x512) ![2, 0, 0] S1x128x512.size inb_S4x128x512_S1x128x512_2_0_0
abbrev r9_3 : Rect S4x128x512 := Rect.unit (s := S4x128x512) ![3, 0, 0] S1x128x512.size inb_S4x128x512_S1x128x512_3_0_0

def ld8 (c : Dev nD) : Vec F S128x512 .bf16 := (Memref.whole cc0_scratch2).view.readAt (Elt F)
  (Rect.unit (s := S512x512) (k0_off4 c) S128x512.size (k0_off4_inb c)).toLoadRect (pbV m c)
def ld9_1 (c : Dev nD) : Vec F S1x128x512 .bf16 := (Memref.whole cc0_scratch3).view.readAt (Elt F) r9_1.toLoadRect (rsV m c)
def ld9_2 (c : Dev nD) : Vec F S1x128x512 .bf16 := (Memref.whole cc0_scratch3).view.readAt (Elt F) r9_2.toLoadRect (rsV m c)
def ld9_3 (c : Dev nD) : Vec F S1x128x512 .bf16 := (Memref.whole cc0_scratch3).view.readAt (Elt F) r9_3.toLoadRect (rsV m c)

/-- The device's rows summed over the four devices, in the wide and in the narrow format. -/
def redF (c : Dev nD) : FVec F S128x512 .f32 := k0_pay29 (ld8 m c) (ld9_1 m c) (ld9_2 m c) (ld9_3 m c)
def redV (c : Dev nD) : Vec F S128x512 .bf16 := k0_pay30 (ld8 m c) (ld9_1 m c) (ld9_2 m c) (ld9_3 m c)

/-- The landing buffer of reduced rows: slot `d` holds the rows of the device `d` back. -/
def agV (c : Dev nD) : Vec F S4x128x512 .bf16 := fun i => redV m (c - ⟨(i 0).val, (i 0).isLt⟩) (ix2 (i 1) (i 2))

def ld11_1 (c : Dev nD) : Vec F S1x128x512 .bf16 := (Memref.whole cc0_scratch5).view.readAt (Elt F) r9_1.toLoadRect (agV m c)
def ld11_2 (c : Dev nD) : Vec F S1x128x512 .bf16 := (Memref.whole cc0_scratch5).view.readAt (Elt F) r9_2.toLoadRect (agV m c)
def ld11_3 (c : Dev nD) : Vec F S1x128x512 .bf16 := (Memref.whole cc0_scratch5).view.readAt (Elt F) r9_3.toLoadRect (agV m c)

/-- The result device `c` writes: 128 rows per device, its own from the wide sums. -/
def outV (c : Dev nD) : Vec F S2x256x512 .f32 := fun i =>
  let x : S1x128x512.Idx := ix3 0 ⟨(i 1).val % 128, Nat.mod_lt _ (by decide)⟩ (i 2)
  let s : ℕ := 2 * (i 0).val + (i 1).val / 128
  if s = c.val then k0_pay31 (redF m c) x
  else if s = (c.val + 3) % 4 then k0_pay32 (ld11_1 m c) x
  else if s = (c.val + 2) % 4 then k0_pay34 (k0_pay33 (ld11_2 m c)) x
  else k0_pay36 (k0_pay35 (ld11_3 m c)) x

/-! ## The pieces of the buffers -/

/-- The heads of the key/value buffer that belong to device `b`. -/
def kvsS (b : Fin 4) : Finset S2x2x256x16x64.Idx := Finset.univ.filter fun i => (i 3).val / 4 = b.val
/-- Slot `d` of the landing buffer of keys and values. -/
def kvfS (d : Fin 4) : Finset S4x2x2x256x4x64.Idx := Finset.univ.filter fun i => (i 0).val = d.val
/-- The rows of the partial product that belong to device `b`. -/
def pbS (b : Fin 4) : Finset S512x512.Idx := Finset.univ.filter fun i => (i 0).val / 128 = b.val
/-- Slot `d` of a landing buffer of row blocks. -/
def rowS (d : Fin 4) : Finset S4x128x512.Idx := Finset.univ.filter fun i => (i 0).val = d.val

/-- Heads `b` of device `c`'s keys and values; slot `d` of its three landing buffers; row block `b` of its product; a
    share of its reduced rows: each at contents `f`. -/
def kvsP (c : Dev nD) (b : Fin 4) (f : Vec F S2x2x256x16x64 .bf16) : sProp 𝕄 := ((c : Thread nD τ).loc cc0_scratch0) ↦[kvsS b]{fullShare} f
def kvfP (c : Dev nD) (d : Fin 4) (f : Vec F S4x2x2x256x4x64 .bf16) : sProp 𝕄 := ((c : Thread nD τ).loc cc0_scratch1) ↦[kvfS d]{fullShare} f
def pbP (c : Dev nD) (b : Fin 4) (f : Vec F S512x512 .bf16) : sProp 𝕄 := ((c : Thread nD τ).loc cc0_scratch2) ↦[pbS b]{fullShare} f
def rsP (c : Dev nD) (d : Fin 4) (f : Vec F S4x128x512 .bf16) : sProp 𝕄 := ((c : Thread nD τ).loc cc0_scratch3) ↦[rowS d]{fullShare} f
def redP (c : Dev nD) (q : PosShare TreeShare) (f : Vec F S128x512 .bf16) : sProp 𝕄 := ((c : Thread nD τ).loc cc0_scratch4) ↦{q} f
def agP (c : Dev nD) (d : Fin 4) (f : Vec F S4x128x512 .bf16) : sProp 𝕄 := ((c : Thread nD τ).loc cc0_scratch5) ↦[rowS d]{fullShare} f

/-- The share of the reduced rows that travels with the copy at distance `i + 1`. -/
abbrev redQ (i : Fin 3) : PosShare TreeShare := Transfers.shareTok fullShare 3 i

section Storable
omit [FloatOps F]
instance kvsP_storable (c b f) : BI.Storable (upEmb : UEmb _ 𝕄) (kvsP (F := F) c b f) := by unfold kvsP; infer_instance
instance kvfP_storable (c b f) : BI.Storable (upEmb : UEmb _ 𝕄) (kvfP (F := F) c b f) := by unfold kvfP; infer_instance
instance pbP_storable (c b f) : BI.Storable (upEmb : UEmb _ 𝕄) (pbP (F := F) c b f) := by unfold pbP; infer_instance
instance rsP_storable (c b f) : BI.Storable (upEmb : UEmb _ 𝕄) (rsP (F := F) c b f) := by unfold rsP; infer_instance
instance redP_storable (c q f) : BI.Storable (upEmb : UEmb _ 𝕄) (redP (F := F) c q f) := by unfold redP; infer_instance
instance agP_storable (c b f) : BI.Storable (upEmb : UEmb _ 𝕄) (agP (F := F) c b f) := by unfold agP; infer_instance
end Storable

/-! ## The schedule -/

/-- What the notice named `e` on device `c`'s barrier hands over: slot `e` of the three landing buffers of the device
    `e` places further on, the one `c` will fill, at any contents. -/
def barPay (c : Dev nD) (e : Fin 4) : sProp 𝕄 :=
  iprop((∃ f, kvfP (c + e) e f) ∗ (∃ f, rsP (c + e) e f) ∗ (∃ f, agP (c + e) e f))

/-- What each payment hands over. -/
def pay (c : Dev nD) (k : Fin 20) (e : Fin 4) : sProp 𝕄 :=
  (![barPay c e,
    iprop(kvfP c 0 (kvfV m c) ∗ kvsP c c (kvsV m c)),
    kvsP c (c + 1) (kvsV m c), kvsP c (c + 2) (kvsV m c), kvsP c (c + 3) (kvsV m c),
    kvfP c 1 (kvfV m c), kvfP c 2 (kvfV m c), kvfP c 3 (kvfV m c),
    pbP c (c + 1) (pbV m c), pbP c (c + 2) (pbV m c), pbP c (c + 3) (pbV m c),
    rsP c 1 (rsV m c), rsP c 2 (rsV m c), rsP c 3 (rsV m c),
    redP c (redQ 0) (redV m c), redP c (redQ 1) (redV m c), redP c (redQ 2) (redV m c),
    agP c 1 (agV m c), agP c 2 (agV m c), agP c 3 (agV m c)] : Fin 20 → sProp 𝕄) k

instance barPay_storable (c e) : BI.Storable (upEmb : UEmb _ 𝕄) (barPay (F := F) c e) := by unfold barPay; infer_instance

instance pay_storable (c k e) : BI.Storable (upEmb : UEmb _ 𝕄) (pay (F := F) m c k e) := by
  unfold pay
  fin_cases k <;> (dsimp only [Fin.zero_eta, Fin.mk_one, Fin.reduceFinMk, Matrix.cons_val]; infer_instance)

/-- The duties of one semaphore: three notices on the barrier, one landing anywhere else. -/
def dut (k : Fin 20) : Finset (Fin 4) := if k = 0 then {1, 2, 3} else {0}

/-- One round: the barrier of a device is paid by the three others, every other semaphore once. -/
def Rd : Rounds.Schedule (GSem nD τ sig) (Fin 4) 𝕄 where
  duties g r := if r = 0 ∧ g.1.2 = .tc then (match idx g.2 with | some k => dut k | none => ∅) else ∅
  unitless _ := False
  amount g _ _ := match idx g.2 with | some k => amt k | none => 1
  payload g _ e := match idx g.2 with | some k => pay m g.1.1 k e | none => iprop(emp)
  amount_pos g _ _ _ := by
    cases idx g.2 with
    | none => exact Nat.one_pos
    | some k => exact amt_pos k

instance Rd_payload_storable (g : GSem nD τ sig) (r : ℕ) (e : Fin 4) :
    BI.Storable (upEmb : UEmb _ 𝕄) ((Rd (F := F) m).payload g r e) := by
  show BI.Storable upEmb (match idx g.2 with | some k => pay m g.1.1 k e | none => iprop(emp))
  cases idx g.2 with
  | none => dsimp only; infer_instance
  | some k => dsimp only; infer_instance

section Sched
variable (c : Dev nD) (k : Fin 20)

theorem duties_cell : (Rd (F := F) m).duties (cell c k) 0 = dut k := by
  dsimp only [Rd]; rw [if_pos ⟨rfl, rfl⟩, idx_sl]
theorem duties_later (g : GSem nD τ sig) : ∀ r, 1 ≤ r → (Rd (F := F) m).duties g r = ∅ :=
  fun r hr => by dsimp only [Rd]; rw [if_neg fun h => by omega]
theorem amount_cell (e : Fin 4) : (Rd (F := F) m).amount (cell c k) 0 e = amt k := by
  dsimp only [Rd]; rw [idx_sl]
theorem payload_cell (e : Fin 4) : (Rd (F := F) m).payload (cell c k) 0 e = pay m c k e := by
  dsimp only [Rd]; rw [idx_sl]
/-- What a device waits for in all: three units on the barrier, one block on any other semaphore. -/
theorem expect_cell : (Rd (F := F) m).expect (cell c k) 0 = if k = 0 then 3 else amt k := by
  unfold Schedule.expect Schedule.amountOf
  rw [duties_cell, Finset.sum_congr rfl fun e _ => amount_cell m c k e, Finset.sum_const, smul_eq_mul]
  unfold dut
  split
  · next h => subst h; rfl
  · rw [Finset.card_singleton, Nat.one_mul]
/-- The payload of a landing, whole. -/
theorem rest_cell (h : k ≠ 0) : bigSep ((Rd (F := F) m).duties (cell c k) 0 \ ∅) (fun e => (Rd (F := F) m).payload (cell c k) 0 e) = pay m c k 0 := by
  rw [Finset.sdiff_empty, duties_cell, dut, if_neg h, bigSep_singleton, payload_cell]
/-- The three payloads of the barrier. -/
theorem rest_bar : bigSep ((Rd (F := F) m).duties (cell c 0) 0 \ ∅) (fun e => (Rd (F := F) m).payload (cell c 0) 0 e)
    = iprop(barPay c 1 ∗ barPay c 2 ∗ barPay c 3) := by
  rw [Finset.sdiff_empty, duties_cell, dut, if_pos rfl, bigSep_eq_bigSepL_of_eq [1, 2, 3] (by decide) (by decide), bigSepL_cons_cons, bigSepL_cons_cons, bigSepL_singleton,
    payload_cell, payload_cell, payload_cell]
  rfl

end Sched

/-! ## What each device owes; the levels -/

/-- The dues of a list of payments: each to semaphore `k` of a device. -/
def O : List (Dev nD × Fin 20) → CellTallies nD τ sig Unit
  | [] => 0
  | x :: l => O l + tallyAt (cell x.1 x.2) () (amt x.2)

/-- The payments device `c` makes to other devices, in program order. -/
def dues (c : Dev nD) : List (Dev nD × Fin 20) :=
  [(c + 1, 0), (c + 2, 0), (c + 3, 0), (c + 1, 5), (c + 2, 6), (c + 3, 7), (c + 1, 11), (c + 2, 12), (c + 3, 13),
    (c + 1, 17), (c + 2, 18), (c + 3, 19)]

/-- The levels: a device waits only on a level below all it still owes. -/
def lvk (k : Fin 20) : ℕ := if k = 0 then 1 else if 5 ≤ k.val ∧ k.val ≤ 7 then 2 else if 11 ≤ k.val ∧ k.val ≤ 13 then 3 else if 17 ≤ k.val then 4 else 0
def lv (g : GSem nD τ sig) (_ : Unit) : ℕ := match idx g.2 with | some k => lvk k | none => 0
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 20) (u : Unit) : lv (cell c k) u = lvk k := by unfold lv; rw [idx_sl]

/-- A due of the list is to one of its members. -/
theorem O_pos {l : List (Dev nD × Fin 20)} {g : GSem nD τ sig} {u : Unit} (h : 0 < O l g u) : ∃ x ∈ l, g = cell x.1 x.2 := by
  induction l with
  | nil => exact absurd h (Nat.lt_irrefl 0)
  | cons x l ih =>
    unfold O at h
    rw [Pi.add_apply, Finsupp.add_apply, tallyAt_apply] at h
    by_cases hg : g = cell x.1 x.2 ∧ u = ()
    · exact ⟨x, List.mem_cons_self, hg.1⟩
    · rw [if_neg hg, Nat.add_zero] at h
      obtain ⟨y, hy, he⟩ := ih h
      exact ⟨y, List.mem_cons_of_mem _ hy, he⟩

omit [FloatOps F] in
/-- A wait of level `n` while only dues above level `n` are left. -/
theorem mayWait_list (c : Dev nD) (s : SemLoc sig) (n : ℕ) (l : List (Dev nD × Fin 20)) (hs : lv ((c : Thread nD τ), s) () = n)
    (hl : ∀ x ∈ l, n < lvk x.2) : (levAts L lv : sProp 𝕄) ⊢ MayWait (c : Thread nD τ) s () (O l) := by
  refine MayOwe.of_cut (L := L) (lev := lv) n (fun p hp => by rw [Finset.mem_singleton.mp hp, L_tc]; exact Finset.mem_singleton_self _)
      (fun g u hg => by
        obtain ⟨x, _, rfl⟩ := O_pos hg
        rw [L_tc]; exact Finset.mem_singleton_self _)
      (fun p hp => by rw [Finset.mem_singleton.mp hp]; exact hs.le)
      (fun g u hg => by
        obtain ⟨x, hx, rfl⟩ := O_pos hg
        rw [lv_cell]; exact hl x hx)

end Cert.KernelIdealProof
-- ==== Proof.IdealSteps.lean ====
/-
# The steps of the kernel

Each operation of the body that touches a semaphore, as one rule: a notice, the wait on the barrier, a copy to another
device, the copy that stays, and the wait for a landing.  Every wait closes its semaphore, since the protocol has one
round.
-/
module

public import proofs.«01_k».proof.Proof.IdealProto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every step shares -/

/-- The invariants of all the protocol's semaphores, with the mark that each has reached its round. -/
def records (K : Dev nD × Fin 20 → ℕ) : sProp 𝕄 :=
  bigSep Finset.univ fun x : Dev nD × Fin 20 => iprop(cellInv ER (Rd m) (K x) (cell x.1 x.2) ∗ reached ER (cell x.1 x.2) 0)

instance records_persistent (K : Dev nD × Fin 20 → ℕ) : BI.Persistent (records (F := F) m K) := by unfold records; infer_instance

theorem records_get (K : Dev nD × Fin 20 → ℕ) (c : Dev nD) (k : Fin 20) :
    records (F := F) m K ⊢ iprop(cellInv ER (Rd m) (K (c, k)) (cell c k) ∗ reached ER (cell c k) 0) := by
  unfold records
  exact bigSep_elim (Finset.mem_univ (c, k))

/-- The records and the levels. -/
def env (K : Dev nD × Fin 20 → ℕ) : sProp 𝕄 := iprop(records m K ∗ levAts L lv)

instance env_persistent (K : Dev nD × Fin 20 → ℕ) : BI.Persistent (env (F := F) m K) := by unfold env; infer_instance

/-- Device `c` owes the payments `l`. -/
def owesS (c : Dev nD) (l : List (Dev nD × Fin 20)) : sProp 𝕄 := iprop(∃ W, owes (c : Thread nD τ) (O l) W)

/-- Device `c`'s place on its semaphore `k`; the right to make payment `e` of it; what it may wait for there. -/
def pos (c : Dev nD) (k : Fin 20) : sProp 𝕄 := atPos ER (cell c k) 0 ∅ 0
def tok (c : Dev nD) (k : Fin 20) (e : Fin 4) : sProp 𝕄 := dutyTok ER (cell c k) 0 e
def crd (c : Dev nD) (k : Fin 20) : sProp 𝕄 := cred (tallyAt (cell c k) () (if k = 0 then 3 else amt k))

theorem pay_bar (c : Dev nD) (e : Fin 4) : pay (F := F) m c 0 e = barPay c e := rfl

variable (K : Dev nD × Fin 20 → ℕ)

/-- A notice: the payment is made and no longer owed. -/
theorem step_signal (c c' n : Dev nD) (hn : n = c') (e : Fin 4) (he : e ∈ dut 0) (l : List (Dev nD × Fin 20))
    {α : Type} {Q : α → sProp 𝕄} {k : PUnit → Prog (TpuEff nD τ sig (Elt F) Λ₀ .tc) α} :
    iprop(env m K ∗ owesS c ((c', 0) :: l) ∗ tok c' 0 e ∗ barPay c' e)
      ⊢ iprop((owesS c l -∗ wp frame (wpE (defs₀ (F := F)) 𝒱₀ (c : Thread nD τ) none) Set.univ (k ⟨⟩) Q) -∗ wp frame (wpE (defs₀ (F := F)) 𝒱₀ (c : Thread nD τ) none) Set.univ (.op (.semSignal (n, .tc) barS 1) k) Q) := by
  subst hn
  unfold env owesS tok
  iintro ⟨⟨#Hrec, -⟩, ⟨%W, HO⟩, Ht, Hp⟩ Hk
  ihave Hr := (records_get m K n 0) $$ Hrec
  icases Hr with ⟨#Hi, #Hr⟩
  iapply (Rounds.wp_signal 𝒱₀ ER (Rd m) (c : Thread nD τ) none (dst := (n : Thread nD τ)) (κ := K (n, 0)) (k' := 1)
      (d := e) (by rw [show (((n : Thread nD τ), SemLoc.reg barS) : GSem nD τ sig) = cell n 0 from rfl, duties_cell]; exact he)
      ((amount_cell m n 0 e).trans rfl) () (O l) rfl) $$ [HO Ht Hp]
  · isplitr; · iexact Hi
    isplitl [HO]; · iexact HO
    isplitl [Ht]; · iexact Ht
    isplitl [Hp]
    · rw [show (((n : Thread nD τ), SemLoc.reg barS) : GSem nD τ sig) = cell n 0 from rfl, payload_cell, pay_bar]; iexact Hp
    · iexact Hr
  iintro HO
  iapply Hk
  iexists W; iexact HO

/-- A wait for all of a semaphore's round, below every level still owed: its payloads, and its counter at zero. -/
theorem step_wait (c : Dev nD) (k : Fin 20) {sm : SemLoc sig} (hsm : sm = sl k) {w : TpuEff nD τ sig (Elt F) Λ₀ .tc PUnit} {k' : ℕ}
    (hk' : k' = if k = 0 then 3 else amt k)
    (hw : ∀ Kq : PUnit → sProp 𝕄, wpE (defs₀ (F := F)) 𝒱₀ (c : Thread nD τ) none Set.univ w Kq = waitSpec (c : Thread nD τ) Set.univ sm k' Kq)
    (l : List (Dev nD × Fin 20)) (hl : ∀ x ∈ l, lvk k < lvk x.2)
    {α : Type} {Q : α → sProp 𝕄} {kc : PUnit → Prog (TpuEff nD τ sig (Elt F) Λ₀ .tc) α} :
    iprop(env m K ∗ crd c k ∗ owesS c l ∗ pos c k)
      ⊢ iprop(((owesS c l ∗ semVal (cell c k) 0 ∗ bigSep ((Rd (F := F) m).duties (cell c k) 0 \ ∅) (fun e => (Rd (F := F) m).payload (cell c k) 0 e))
          -∗ wp frame (wpE (defs₀ (F := F)) 𝒱₀ (c : Thread nD τ) none) Set.univ (kc ⟨⟩) Q) -∗ wp frame (wpE (defs₀ (F := F)) 𝒱₀ (c : Thread nD τ) none) Set.univ (.op w kc) Q) := by
  subst hsm hk'
  unfold env owesS crd pos
  iintro ⟨⟨#Hrec, #Hlev⟩, Hc, ⟨%W, HO⟩, Hat⟩ Hk
  ihave Hr := (records_get m K c k) $$ Hrec
  icases Hr with ⟨#Hi, #Hr⟩
  iapply (Rounds.wp_wait_rest_token 𝒱₀ ER (Rd m) (c : Thread nD τ) none (κ := K (c, k)) hw (Set.mem_univ _) () (O := O l) (W := W)
      (R := 0) (m := 0) (T := ∅) (by rw [expect_cell]; split <;> simp)) $$ [Hc HO Hat]
  · isplitr; · iexact Hi
    isplitl [Hc]; · iexact Hc
    isplitl [HO]; · iexact HO
    isplitr; · iapply (mayWait_list c (sl k) (lvk k) l (lv_cell c k ()) hl); iexact Hlev
    iexact Hat
  iintro ⟨HO, Hat, -, Hpay⟩
  imod (Rounds.cell_close ER (Rd m) (Set.mem_univ (K (c, k))) (fun h => h) (R := 0 + 1) (duties_later m (cell c k))) $$ [Hat] with Hz
  · isplitr; · iexact Hi
    iexact Hat
  iapply Hk
  isplitl [HO]; · iexists _; iexact HO
  isplitl [Hz]; · iexact Hz
  iexact Hpay

/-- The wait on the barrier: the slots of the three others. -/
theorem step_bar (c : Dev nD) (l : List (Dev nD × Fin 20)) (hl : ∀ x ∈ l, 1 < lvk x.2)
    {α : Type} {Q : α → sProp 𝕄} {kc : PUnit → Prog (TpuEff nD τ sig (Elt F) Λ₀ .tc) α} :
    iprop(env m K ∗ crd c 0 ∗ owesS c l ∗ pos c 0)
      ⊢ iprop(((owesS c l ∗ semVal (cell c 0) 0 ∗ barPay c 1 ∗ barPay c 2 ∗ barPay c 3)
          -∗ wp frame (wpE (defs₀ (F := F)) 𝒱₀ (c : Thread nD τ) none) Set.univ (kc ⟨⟩) Q) -∗ wp frame (wpE (defs₀ (F := F)) 𝒱₀ (c : Thread nD τ) none) Set.univ (.op (.semWait barS 3) kc) Q) := by
  rw [← rest_bar (F := F) m c]
  exact step_wait m K c 0 (sm := .reg barS) rfl (k' := 3) rfl (wpE_semWait_eq 𝒱₀ (c : Thread nD τ) none Set.univ) l hl

/-- The wait for a landing: its payload. -/
theorem step_dma (c : Dev nD) (k : Fin 20) (h0 : k ≠ 0) {sem : DmaSem sig} (hsm : .dma sem = sl k)
    {sp sp' : Space} {s s' : Shape} {e e' : EltTy} {src : Memref sig .tc sp' s' e'} {dst : Memref sig .tc sp s e}
    {hsrc : src.view.WordExact} {hdst : dst.view.WordExact} (hN : dst.view.dmaCredit = amt k)
    (l : List (Dev nD × Fin 20)) (hl : ∀ x ∈ l, lvk k < lvk x.2) {P : sProp 𝕄} (hP : pay m c k 0 = P)
    {α : Type} {Q : α → sProp 𝕄} {kc : PUnit → Prog (TpuEff nD τ sig (Elt F) Λ₀ .tc) α} :
    iprop(env m K ∗ crd c k ∗ owesS c l ∗ pos c k)
      ⊢ iprop(((owesS c l ∗ semVal (cell c k) 0 ∗ P)
          -∗ wp frame (wpE (defs₀ (F := F)) 𝒱₀ (c : Thread nD τ) none) Set.univ (kc ⟨⟩) Q) -∗ wp frame (wpE (defs₀ (F := F)) 𝒱₀ (c : Thread nD τ) none) Set.univ (.op (.waitDma2 sem src dst hsrc hdst) kc) Q) := by
  rw [← hP, ← rest_cell (F := F) m c k h0]
  exact step_wait m K c k (sm := .dma sem) hsm (k' := dst.view.dmaCredit) (by rw [if_neg h0, hN])
    (wpE_waitDma2_eq 𝒱₀ (c : Thread nD τ) none Set.univ) l hl

/-- A copy to another device: it owes that payment no longer, and may wait for its block back. -/
theorem step_send (c c' n : Dev nD) (hn : n = c') (kS kR : Fin 20) (hS0 : kS ≠ 0) (hR0 : kR ≠ 0)
    {sS sem : DmaSem sig} (hS : .dma sS = sl kS) (hR : .dma sem = sl kR)
    {s : Shape} {e : EltTy} {src dst : Memref sig .tc .vmem s e} {hsc : dst.view.ref.isScScratch = false}
    {hsrc : src.view.WordExact} {hdst : dst.view.WordExact}
    {hsem : DmaTarget.Typed .vmem (.dma sem) (.remote (Dev.tc n : Thread nD τ) dst (.dma sS) hsc)}
    (hN : dst.view.dmaCredit = amt kR) (hSR : amt kS = amt kR) (l : List (Dev nD × Fin 20))
    {q : PosShare TreeShare} {fs : Buf (Elt F) (src.view.loc (c : Thread nD τ))}
    (fd : Buf (Elt F) (dst.view.loc (c' : Thread nD τ))) {PS PD : sProp 𝕄}
    (hpS : PS = (src.view.loc (c : Thread nD τ) ↦[src.view.set]{q} fs)) (hpD : PD = (dst.view.loc (c' : Thread nD τ) ↦[dst.view.set]{fullShare} fd))
    (hpay₁ : (src.view.loc (c : Thread nD τ) ↦[src.view.set]{q} fs) ⊢ pay m c kS 0)
    (hpay₂ : (dst.view.loc (c' : Thread nD τ) ↦[dst.view.set]{fullShare} (dst.view.write (Elt F) fd (src.view.read (Elt F) fs) Finset.univ))
      ⊢ pay m c' kR 0)
    {α : Type} {Q : α → sProp 𝕄} {k : PUnit → Prog (TpuEff nD τ sig (Elt F) Λ₀ .tc) α} :
    iprop(env m K ∗ PS ∗ PD ∗ owesS c ((c', kR) :: l) ∗ tok c kS 0 ∗ tok c' kR 0)
      ⊢ iprop(((crd c kS ∗ owesS c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma sem) hsrc hdst hsem) k) Q) := by
  subst hn hpS hpD
  unfold env owesS tok crd
  rw [if_neg hS0]
  iintro ⟨⟨#Hrec, -⟩, Hs, Hd, ⟨%W, HO⟩, HtS, HtR⟩ Hk
  ihave Hr := (records_get m K c kS) $$ Hrec
  icases Hr with ⟨#HiS, #HrS⟩
  ihave Hr := (records_get m K n kR) $$ Hrec
  icases Hr with ⟨#HiR, #HrR⟩
  unfold cell
  rw [← hS, ← hR, hSR]
  iapply (Rounds.wp_send_pointsTo 𝒱₀ ER (Rd m) (c : Thread nD τ) none (c' := (n : Thread nD τ)) (sS := .dma sS) (sem := .dma sem) (κ₁ := K (c, kS)) (κ₂ := K (n, kR))
    (r₁ := 0) (r₂ := 0) (d₁ := 0) (d₂ := 0) (fd := fd) (fs := fs) (W := W)
    (by rw [hS, show (((c : Thread nD τ), sl kS) : GSem nD τ sig) = cell c kS from rfl, duties_cell, dut, if_neg hS0]; exact Finset.mem_singleton_self _)
    (by rw [hR, show (((n : Thread nD τ), sl kR) : GSem nD τ sig) = cell n kR from rfl, duties_cell, dut, if_neg hR0]; exact Finset.mem_singleton_self _)
    () () (amt kR) hN
    (by rw [hS]; exact (amount_cell m c kS 0).trans hSR) (by rw [hR]; exact amount_cell m n kR 0) (O l)
    (by rw [hR])
    (by rw [hS]; exact hpay₁.trans (Entails.of_eq (payload_cell m c kS 0).symm))
    (by rw [hR]; exact hpay₂.trans (Entails.of_eq (payload_cell m n kR 0).symm))) $$ [Hs Hd HO HtS HtR]
  · isplitr; · iexact HiS
    isplitr; · iexact HiR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- The copy that stays on the device. -/
theorem step_copy (c : Dev nD) (kS : Fin 20) (hS0 : kS ≠ 0) {sem : DmaSem sig} (hS : .dma sem = sl kS)
    {s : Shape} {e : EltTy} {src dst : Memref sig .tc .vmem s e}
    {hsrc : src.view.WordExact} {hdst : dst.view.WordExact} {hsem : DmaTarget.Typed .vmem (.dma sem) (.here dst : DmaTarget nD τ sig .tc .vmem s e)}
    (hN : dst.view.dmaCredit = amt kS)
    {q : PosShare TreeShare} {fs : Buf (Elt F) (src.view.loc (c : Thread nD τ))}
    (fd : Buf (Elt F) (dst.view.loc (c : Thread nD τ))) {PS PD : sProp 𝕄}
    (hpS : PS = (src.view.loc (c : Thread nD τ) ↦[src.view.set]{q} fs)) (hpD : PD = (dst.view.loc (c : Thread nD τ) ↦[dst.view.set]{fullShare} fd))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ pay m c kS 0)
    {α : Type} {Q : α → sProp 𝕄} {k : PUnit → Prog (TpuEff nD τ sig (Elt F) Λ₀ .tc) α} :
    iprop(env m K ∗ PS ∗ PD ∗ tok c kS 0)
      ⊢ iprop((crd c kS -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sem) hsrc hdst hsem) k) Q) := by
  subst hpS hpD
  unfold env tok crd
  rw [if_neg hS0]
  iintro ⟨⟨#Hrec, -⟩, Hs, Hd, HtS⟩ Hk
  ihave Hr := (records_get m K c kS) $$ Hrec
  icases Hr with ⟨#HiS, #HrS⟩
  unfold cell
  rw [← hS]
  iapply (Rounds.wp_copy_pointsTo 𝒱₀ ER (Rd m) (c : Thread nD τ) none (sem := .dma sem) (κ := K (c, kS))
    (r := 0) (d := 0) (fd := fd) (fs := fs)
    (by rw [hS, show (((c : Thread nD τ), sl kS) : GSem nD τ sig) = cell c kS from rfl, duties_cell, dut, if_neg hS0]; exact Finset.mem_singleton_self _)
    () (amt kS) hN (by rw [hS]; exact amount_cell m c kS 0)
    (by rw [hS]; exact hpay.trans (Entails.of_eq (payload_cell m c kS 0).symm))) $$ [Hs Hd HtS]
  · isplitr; · iexact HiS
    isplitl [Hs]; · iexact Hs
    isplitl [Hd]; · iexact Hd
    isplitl [HtS]; · iexact HtS
    iexact HrS
  iintro Hc
  iapply Hk
  iexact Hc

end Cert.KernelIdealProof
-- ==== Proof.IdealMoves.lean ====
/-
# The copies of the kernel

The views the kernel copies from and into, which elements they hold, and the three kinds of copies between devices
with the contents they land.
-/
module

public import proofs.«01_k».proof.Proof.IdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 20 → ℕ)

/-! ## Which elements the views hold -/

/-- A head block of the key/value buffer. -/
abbrev kvsM (off : Fin 5 → ℕ) (inb : ∀ a, off a + S2x2x256x4x64.size a ≤ S2x2x256x16x64.size a) :
    Memref sig .tc .vmem S2x2x256x4x64 .bf16 :=
  (Memref.whole cc0_scratch0).slice (Rect.unit (s := S2x2x256x16x64) off S2x2x256x4x64.size inb) (fun _ => rfl)
/-- A slot of the landing buffer of keys and values. -/
abbrev kvfM (dn : ℕ) (inb : ∀ a, (![dn, 0, 0, 0, 0, 0] : Fin 6 → ℕ) a + S1x2x2x256x4x64.size a ≤ S4x2x2x256x4x64.size a) :
    Memref sig .tc .vmem S2x2x256x4x64 .bf16 :=
  ((Memref.whole cc0_scratch1).slice (Rect.unit (s := S4x2x2x256x4x64) ![dn, 0, 0, 0, 0, 0] S1x2x2x256x4x64.size inb) (fun _ => rfl)).squeeze S2x2x256x4x64 squeezes_S1x2x2x256x4x64_S2x2x256x4x64
/-- A row block of the partial product. -/
abbrev pbM (off : Fin 2 → ℕ) (inb : ∀ a, off a + S128x512.size a ≤ S512x512.size a) : Memref sig .tc .vmem S128x512 .bf16 :=
  (Memref.whole cc0_scratch2).slice (Rect.unit (s := S512x512) off S128x512.size inb) (fun _ => rfl)
/-- A slot of a landing buffer of row blocks. -/
abbrev rsM (dn : ℕ) (inb : ∀ a, (![dn, 0, 0] : Fin 3 → ℕ) a + S1x128x512.size a ≤ S4x128x512.size a) :
    Memref sig .tc .vmem S128x512 .bf16 :=
  ((Memref.whole cc0_scratch3).slice (Rect.unit (s := S4x128x512) ![dn, 0, 0] S1x128x512.size inb) (fun _ => rfl)).squeeze S128x512 squeezes_S1x128x512_S128x512
abbrev agM (dn : ℕ) (inb : ∀ a, (![dn, 0, 0] : Fin 3 → ℕ) a + S1x128x512.size a ≤ S4x128x512.size a) :
    Memref sig .tc .vmem S128x512 .bf16 :=
  ((Memref.whole cc0_scratch5).slice (Rect.unit (s := S4x128x512) ![dn, 0, 0] S1x128x512.size inb) (fun _ => rfl)).squeeze S128x512 squeezes_S1x128x512_S128x512

section Sets
omit [FloatOps F]

theorem kvs_rect (b : Fin 4) {off : Fin 5 → ℕ} (hoff : off = ![0, 0, 0, 4 * b.val, 0]) (inb : ∀ a, off a + S2x2x256x4x64.size a ≤ S2x2x256x16x64.size a) :
    (Rect.unit (s := S2x2x256x16x64) off S2x2x256x4x64.size inb).set = kvsS b := by
  subst hoff
  ext i
  rw [Rect.mem_set_unit]
  simp only [kvsS, Finset.mem_filter, Finset.mem_univ, true_and]
  have h0 : (i 0).val < 2 := (i 0).isLt
  have h1 : (i 1).val < 2 := (i 1).isLt
  have h2 : (i 2).val < 256 := (i 2).isLt
  have h3 : (i 3).val < 16 := (i 3).isLt
  have h4 : (i 4).val < 64 := (i 4).isLt
  constructor
  · intro h
    have h := h 3
    simp only [Matrix.cons_val] at h
    omega
  · intro h a
    fin_cases a <;> simp [Matrix.cons_val] <;> omega

theorem kvf_rect (d : Fin 4) {dn : ℕ} (hd : dn = d.val) (inb : ∀ a, (![dn, 0, 0, 0, 0, 0] : Fin 6 → ℕ) a + S1x2x2x256x4x64.size a ≤ S4x2x2x256x4x64.size a) :
    (Rect.unit (s := S4x2x2x256x4x64) ![dn, 0, 0, 0, 0, 0] S1x2x2x256x4x64.size inb).set = kvfS d := by
  subst hd
  ext i
  rw [Rect.mem_set_unit]
  simp only [kvfS, Finset.mem_filter, Finset.mem_univ, true_and]
  have h1 : (i 1).val < 2 := (i 1).isLt
  have h2 : (i 2).val < 2 := (i 2).isLt
  have h3 : (i 3).val < 256 := (i 3).isLt
  have h4 : (i 4).val < 4 := (i 4).isLt
  have h5 : (i 5).val < 64 := (i 5).isLt
  constructor
  · intro h
    have h := h 0
    simp only [Matrix.cons_val] at h
    omega
  · intro h a
    fin_cases a <;> simp [Matrix.cons_val] <;> omega

theorem pb_rect (b : Fin 4) {off : Fin 2 → ℕ} (hoff : off = ![128 * b.val, 0]) (inb : ∀ a, off a + S128x512.size a ≤ S512x512.size a) :
    (Rect.unit (s := S512x512) off S128x512.size inb).set = pbS b := by
  subst hoff
  ext i
  rw [Rect.mem_set_unit]
  simp only [pbS, Finset.mem_filter, Finset.mem_univ, true_and]
  have h1 : (i 1).val < 512 := (i 1).isLt
  constructor
  · intro h
    have h := h 0
    simp only [Matrix.cons_val] at h
    omega
  · intro h a
    fin_cases a <;> simp [Matrix.cons_val] <;> omega

theorem row_rect (d : Fin 4) {dn : ℕ} (hd : dn = d.val) (inb : ∀ a, (![dn, 0, 0] : Fin 3 → ℕ) a + S1x128x512.size a ≤ S4x128x512.size a) :
    (Rect.unit (s := S4x128x512) ![dn, 0, 0] S1x128x512.size inb).set = rowS d := by
  subst hd
  ext i
  rw [Rect.mem_set_unit]
  simp only [rowS, Finset.mem_filter, Finset.mem_univ, true_and]
  have h1 : (i 1).val < 128 := (i 1).isLt
  have h2 : (i 2).val < 512 := (i 2).isLt
  constructor
  · intro h
    have h := h 0
    simp only [Matrix.cons_val] at h
    omega
  · intro h a
    fin_cases a <;> simp [Matrix.cons_val] <;> omega

/-! ## The pieces as the views hold them -/

theorem kvsP_view (c : Dev nD) (b : Fin 4) {off : Fin 5 → ℕ} (hoff : off = ![0, 0, 0, 4 * b.val, 0]) (inb) (f : Vec F S2x2x256x16x64 .bf16) :
    kvsP (F := F) c b f = ((kvsM off inb).view.loc (c : Thread nD τ) ↦[(kvsM off inb).view.set]{fullShare} f) := by
  have hs : (kvsM off inb).view.set = kvsS b := (View.set_slice_whole _ _).trans (kvs_rect b hoff inb)
  unfold kvsP
  rw [hs]

theorem kvfP_view (c : Dev nD) (d : Fin 4) {dn : ℕ} (hd : dn = d.val) (inb) (f : Vec F S4x2x2x256x4x64 .bf16) :
    kvfP (F := F) c d f = ((kvfM dn inb).view.loc (c : Thread nD τ) ↦[(kvfM dn inb).view.set]{fullShare} f) := by
  have hs : (kvfM dn inb).view.set = kvfS d := (View.set_reshape _ _).trans ((View.set_slice_whole _ _).trans (kvf_rect d hd inb))
  unfold kvfP
  rw [hs]

theorem pbP_view (c : Dev nD) (b : Fin 4) {off : Fin 2 → ℕ} (hoff : off = ![128 * b.val, 0]) (inb) (f : Vec F S512x512 .bf16) :
    pbP (F := F) c b f = ((pbM off inb).view.loc (c : Thread nD τ) ↦[(pbM off inb).view.set]{fullShare} f) := by
  have hs : (pbM off inb).view.set = pbS b := (View.set_slice_whole _ _).trans (pb_rect b hoff inb)
  unfold pbP
  rw [hs]

theorem rsP_view (c : Dev nD) (d : Fin 4) {dn : ℕ} (hd : dn = d.val) (inb) (f : Vec F S4x128x512 .bf16) :
    rsP (F := F) c d f = ((rsM dn inb).view.loc (c : Thread nD τ) ↦[(rsM dn inb).view.set]{fullShare} f) := by
  have hs : (rsM dn inb).view.set = rowS d := (View.set_reshape _ _).trans ((View.set_slice_whole _ _).trans (row_rect d hd inb))
  unfold rsP
  rw [hs]

theorem agP_view (c : Dev nD) (d : Fin 4) {dn : ℕ} (hd : dn = d.val) (inb) (f : Vec F S4x128x512 .bf16) :
    agP (F := F) c d f = ((agM dn inb).view.loc (c : Thread nD τ) ↦[(agM dn inb).view.set]{fullShare} f) := by
  have hs : (agM dn inb).view.set = rowS d := (View.set_reshape _ _).trans ((View.set_slice_whole _ _).trans (row_rect d hd inb))
  unfold agP
  rw [hs]

theorem redP_view (c : Dev nD) (q : PosShare TreeShare) (f : Vec F S128x512 .bf16) :
    redP (F := F) c q f = ((Memref.whole cc0_scratch4).view.loc (c : Thread nD τ) ↦[(Memref.whole cc0_scratch4).view.set]{q} f) := by
  have hs : (Memref.whole cc0_scratch4).view.set = Finset.univ := View.set_whole _
  unfold redP
  rw [hs]

/-- A copy lands what it should once the two buffers agree element by element. -/
theorem land {sp sp' : Space} {s : Shape} {e : EltTy} {p p' : Kind} (src : View sig p sp s e) (dst : View sig p' sp' s e)
    (fs : src.ty.Contents (Elt F)) (fd V : dst.ty.Contents (Elt F))
    (h : ∀ x, dst.read (Elt F) V x = src.read (Elt F) fs x) :
    ∀ i ∈ dst.set, dst.write (Elt F) fd (src.read (Elt F) fs) Finset.univ i = V i := by
  intro i hi
  obtain ⟨x, -, rfl⟩ := Finset.mem_map.mp hi
  have h1 := congrFun (View.read_write_univ (v := dst) (Val := Elt F) fd (src.read (Elt F) fs)) x
  rw [← h x, View.read_apply, View.read_apply] at h1
  exact cast_inj _ |>.mp h1

end Sets

/-! ## What lands -/

theorem dev_back (c c' d : Dev nD) (h : c' = c + d) : c' - d = c := by subst h; revert c d; decide

theorem kvsV_congr {c c' : Dev nD} (hc : c = c') {i j : S2x2x256x16x64.Idx} (h0 : (i 0).val = (j 0).val) (h1 : (i 1).val = (j 1).val)
    (h2 : (i 2).val = (j 2).val) (h3 : (i 3).val = (j 3).val) (h4 : (i 4).val = (j 4).val) : kvsV m c i = kvsV m c' j := by
  have : i = j := by
    funext a
    fin_cases a
    · exact Fin.ext h0
    · exact Fin.ext h1
    · exact Fin.ext h2
    · exact Fin.ext h3
    · exact Fin.ext h4
  rw [hc, this]

theorem pbV_congr {c c' : Dev nD} (hc : c = c') {i j : S512x512.Idx} (h0 : (i 0).val = (j 0).val) (h1 : (i 1).val = (j 1).val) :
    pbV m c i = pbV m c' j := by
  have : i = j := by
    funext a
    fin_cases a
    · exact Fin.ext h0
    · exact Fin.ext h1
  rw [hc, this]

theorem redV_congr {c c' : Dev nD} (hc : c = c') {i j : S128x512.Idx} (h0 : (i 0).val = (j 0).val) (h1 : (i 1).val = (j 1).val) :
    redV m c i = redV m c' j := by
  have : i = j := by
    funext a
    fin_cases a
    · exact Fin.ext h0
    · exact Fin.ext h1
  rw [hc, this]

/-- Slot `d` of the receiver takes the sender's heads of the receiver. -/
theorem kv_land (c c' : Dev nD) (d : Fin 4) (hc : c' = c + d) {dn : ℕ} (hd : dn = d.val) {off : Fin 5 → ℕ} (hoff : off = ![0, 0, 0, 4 * c'.val, 0])
    (inb inb') (x : S2x2x256x4x64.Idx) :
    (kvfM dn inb').view.read (Elt F) (kvfV m c') x = (kvsM off inb).view.read (Elt F) (kvsV m c) x := by
  subst hd hoff
  show kvfV m c' ((Rect.unit (s := S4x2x2x256x4x64) ![d.val, 0, 0, 0, 0, 0] S1x2x2x256x4x64.size inb').emb (Shape.reshapeEquiv _ x))
    = kvsV m c ((Rect.unit (s := S2x2x256x16x64) ![0, 0, 0, 4 * c'.val, 0] S2x2x256x4x64.size inb).emb x)
  rw [Shape.reshapeEquiv_cons_one]
  unfold kvfV
  refine kvsV_congr m ?_ ?_ ?_ ?_ ?_ ?_
  · rw [← dev_back c c' d hc]
    congr 1
  · show 0 + 1 * (x 0).val = 0 + 1 * (x 0).val; rfl
  · show 0 + 1 * (x 1).val = 0 + 1 * (x 1).val; rfl
  · show 0 + 1 * (x 2).val = 0 + 1 * (x 2).val; rfl
  · show 4 * c'.val + (0 + 1 * (x 3).val) = 4 * c'.val + 1 * (x 3).val; omega
  · show 0 + 1 * (x 4).val = 0 + 1 * (x 4).val; rfl

/-- Slot `d` of the receiver takes the receiver's rows of the sender's product. -/
theorem rs_land (c c' : Dev nD) (d : Fin 4) (hc : c' = c + d) {dn : ℕ} (hd : dn = d.val) {off : Fin 2 → ℕ} (hoff : off = ![128 * c'.val, 0])
    (inb inb') (x : S128x512.Idx) :
    (rsM dn inb').view.read (Elt F) (rsV m c') x = (pbM off inb).view.read (Elt F) (pbV m c) x := by
  subst hd hoff
  show rsV m c' ((Rect.unit (s := S4x128x512) ![d.val, 0, 0] S1x128x512.size inb').emb (Shape.reshapeEquiv _ x))
    = pbV m c ((Rect.unit (s := S512x512) ![128 * c'.val, 0] S128x512.size inb).emb x)
  rw [Shape.reshapeEquiv_cons_one]
  unfold rsV
  refine pbV_congr m ?_ ?_ ?_
  · rw [← dev_back c c' d hc]
    congr 1
  · show 128 * c'.val + (0 + 1 * (x 0).val) = 128 * c'.val + 1 * (x 0).val; omega
  · show 0 + 1 * (x 1).val = 0 + 1 * (x 1).val; rfl

/-- Slot `d` of the receiver takes the sender's reduced rows. -/
theorem ag_land (c c' : Dev nD) (d : Fin 4) (hc : c' = c + d) {dn : ℕ} (hd : dn = d.val) (inb') (x : S128x512.Idx) :
    (agM dn inb').view.read (Elt F) (agV m c') x = (Memref.whole cc0_scratch4).view.read (Elt F) (redV m c) x := by
  subst hd
  show agV m c' ((Rect.unit (s := S4x128x512) ![d.val, 0, 0] S1x128x512.size inb').emb (Shape.reshapeEquiv _ x)) = redV m c x
  rw [Shape.reshapeEquiv_cons_one]
  unfold agV
  refine redV_congr m ?_ ?_ ?_
  · rw [← dev_back c c' d hc]
    congr 1
  · show 0 + 1 * (x 0).val = (x 0).val; omega
  · show 0 + 1 * (x 1).val = (x 1).val; omega

/-- After a copy the destination holds `V`, wherever its view reads `V` as the source's contents. -/
theorem land_pointsTo (c : Dev nD) {s : Shape} {e : EltTy} (src dst : Memref sig .tc .vmem s e)
    (fs : src.view.ty.Contents (Elt F)) (fd V : dst.view.ty.Contents (Elt F))
    (h : ∀ x, dst.view.read (Elt F) V x = src.view.read (Elt F) fs x) :
    (dst.view.loc (c : Thread nD τ) ↦[dst.view.set]{fullShare} (dst.view.write (Elt F) fd (src.view.read (Elt F) fs) Finset.univ) : sProp 𝕄)
      = (dst.view.loc (c : Thread nD τ) ↦[dst.view.set]{fullShare} V) :=
  pointsTo_congr (land src.view dst.view fs fd V h)

/-! ## The three kinds of copies, and the one that stays -/

theorem kv_send (c c' n : Dev nD) (d : Fin 4) (hc : c' = c + d) (hn : n = c') (kS kR : Fin 20) (hS0 : kS ≠ 0) (hR0 : kR ≠ 0)
    {sS sem : DmaSem sig} (hS : .dma sS = sl kS) (hR : .dma sem = sl kR) {dn : ℕ} (hd : dn = d.val) (l : List (Dev nD × Fin 20))
    (hNS : amt kS = Nkv) (hNR : amt kR = Nkv) (hpS : pay m c kS 0 = kvsP c c' (kvsV m c))
    (hpR : pay m c' kR 0 = kvfP c' d (kvfV m c')) {off : Fin 5 → ℕ} (hoff : off = ![0, 0, 0, 4 * c'.val, 0])
    {inb inb'} {hsc : (kvfM dn inb').view.ref.isScScratch = false}
    {hsrc : (kvsM off inb).view.WordExact} {hdst : (kvfM dn inb').view.WordExact}
    {hsem : DmaTarget.Typed .vmem (.dma sem) (.remote (Dev.tc n : Thread nD τ) (kvfM dn inb') (.dma sS) hsc)}
    {α : Type} {Q : α → sProp 𝕄} {k : PUnit → Prog (TpuEff nD τ sig (Elt F) Λ₀ .tc) α} :
    iprop(env m K ∗ kvsP c c' (kvsV m c) ∗ (∃ f, kvfP c' d f) ∗ owesS c ((c', kR) :: l) ∗ tok c kS 0 ∗ tok c' kR 0)
      ⊢ iprop(((crd c kS ∗ owesS c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (kvsM off inb) (.remote (Dev.tc n : Thread nD τ) (kvfM dn inb') (.dma sS) hsc) (.dma sem) hsrc hdst hsem) k) Q) := by
  iintro ⟨He, Hs, ⟨%f, Hd⟩, HO, HtS, HtR⟩ Hk
  iapply (step_send m K c c' n hn kS kR hS0 hR0 hS hR (src := kvsM off inb) (dst := kvfM dn inb')
    (hNR.symm) (hNS.trans hNR.symm) l (q := fullShare) (fs := kvsV m c) f
    (kvsP_view c c' hoff inb _) (kvfP_view c' d hd inb' _)
    (by rw [← kvsP_view c c' hoff inb, hpS])
    (by
      rw [land_pointsTo c' (kvsM off inb) (kvfM dn inb') (kvsV m c) f (kvfV m c') (kv_land m c c' d hc hd hoff inb inb'), ← kvfP_view c' d hd inb', hpR])) $$ [He Hs Hd HO HtS HtR]
  · isplitl [He]; · iexact He
    isplitl [Hs]; · iexact Hs
    isplitl [Hd]; · iexact Hd
    isplitl [HO]; · iexact HO
    isplitl [HtS] <;> iassumption
  iexact Hk

theorem rs_send (c c' n : Dev nD) (d : Fin 4) (hc : c' = c + d) (hn : n = c') (kS kR : Fin 20) (hS0 : kS ≠ 0) (hR0 : kR ≠ 0)
    {sS sem : DmaSem sig} (hS : .dma sS = sl kS) (hR : .dma sem = sl kR) {dn : ℕ} (hd : dn = d.val) (l : List (Dev nD × Fin 20))
    (hNS : amt kS = Nrow) (hNR : amt kR = Nrow) (hpS : pay m c kS 0 = pbP c c' (pbV m c))
    (hpR : pay m c' kR 0 = rsP c' d (rsV m c')) {off : Fin 2 → ℕ} (hoff : off = ![128 * c'.val, 0])
    {inb inb'} {hsc : (rsM dn inb').view.ref.isScScratch = false}
    {hsrc : (pbM off inb).view.WordExact} {hdst : (rsM dn inb').view.WordExact}
    {hsem : DmaTarget.Typed .vmem (.dma sem) (.remote (Dev.tc n : Thread nD τ) (rsM dn inb') (.dma sS) hsc)}
    {α : Type} {Q : α → sProp 𝕄} {k : PUnit → Prog (TpuEff nD τ sig (Elt F) Λ₀ .tc) α} :
    iprop(env m K ∗ pbP c c' (pbV m c) ∗ (∃ f, rsP c' d f) ∗ owesS c ((c', kR) :: l) ∗ tok c kS 0 ∗ tok c' kR 0)
      ⊢ iprop(((crd c kS ∗ owesS c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (pbM off inb) (.remote (Dev.tc n : Thread nD τ) (rsM dn inb') (.dma sS) hsc) (.dma sem) hsrc hdst hsem) k) Q) := by
  iintro ⟨He, Hs, ⟨%f, Hd⟩, HO, HtS, HtR⟩ Hk
  iapply (step_send m K c c' n hn kS kR hS0 hR0 hS hR (src := pbM off inb) (dst := rsM dn inb')
    (hNR.symm) (hNS.trans hNR.symm) l (q := fullShare) (fs := pbV m c) f
    (pbP_view c c' hoff inb _) (rsP_view c' d hd inb' _)
    (by rw [← pbP_view c c' hoff inb, hpS])
    (by
      rw [land_pointsTo c' (pbM off inb) (rsM dn inb') (pbV m c) f (rsV m c') (rs_land m c c' d hc hd hoff inb inb'), ← rsP_view c' d hd inb', hpR])) $$ [He Hs Hd HO HtS HtR]
  · isplitl [He]; · iexact He
    isplitl [Hs]; · iexact Hs
    isplitl [Hd]; · iexact Hd
    isplitl [HO]; · iexact HO
    isplitl [HtS] <;> iassumption
  iexact Hk

theorem ag_send (c c' n : Dev nD) (d : Fin 4) (hc : c' = c + d) (hn : n = c') (kS kR : Fin 20) (hS0 : kS ≠ 0) (hR0 : kR ≠ 0)
    {sS sem : DmaSem sig} (hS : .dma sS = sl kS) (hR : .dma sem = sl kR) {dn : ℕ} (hd : dn = d.val) (l : List (Dev nD × Fin 20))
    (hNS : amt kS = Nrow) (hNR : amt kR = Nrow) (q : PosShare TreeShare) (hpS : pay m c kS 0 = redP c q (redV m c))
    (hpR : pay m c' kR 0 = agP c' d (agV m c'))
    {inb'} {hsc : (agM dn inb').view.ref.isScScratch = false}
    {hsrc : (Memref.whole cc0_scratch4 : Memref sig .tc .vmem S128x512 .bf16).view.WordExact} {hdst : (agM dn inb').view.WordExact}
    {hsem : DmaTarget.Typed .vmem (.dma sem) (.remote (Dev.tc n : Thread nD τ) (agM dn inb') (.dma sS) hsc)}
    {α : Type} {Q : α → sProp 𝕄} {k : PUnit → Prog (TpuEff nD τ sig (Elt F) Λ₀ .tc) α} :
    iprop(env m K ∗ redP c q (redV m c) ∗ (∃ f, agP c' d f) ∗ owesS c ((c', kR) :: l) ∗ tok c kS 0 ∗ tok c' kR 0)
      ⊢ iprop(((crd c kS ∗ owesS c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (Memref.whole cc0_scratch4) (.remote (Dev.tc n : Thread nD τ) (agM dn inb') (.dma sS) hsc) (.dma sem) hsrc hdst hsem) k) Q) := by
  iintro ⟨He, Hs, ⟨%f, Hd⟩, HO, HtS, HtR⟩ Hk
  iapply (step_send m K c c' n hn kS kR hS0 hR0 hS hR (src := Memref.whole cc0_scratch4) (dst := agM dn inb')
    (hNR.symm) (hNS.trans hNR.symm) l (q := q) (fs := redV m c) f
    (redP_view c q _) (agP_view c' d hd inb' _)
    (by rw [← redP_view c q, hpS])
    (by
      rw [land_pointsTo c' (Memref.whole cc0_scratch4 : Memref sig .tc .vmem S128x512 .bf16) (agM dn inb') (redV m c) f (agV m c') (ag_land m c c' d hc hd inb'), ← agP_view c' d hd inb', hpR])) $$ [He Hs Hd HO HtS HtR]
  · isplitl [He]; · iexact He
    isplitl [Hs]; · iexact Hs
    isplitl [Hd]; · iexact Hd
    isplitl [HO]; · iexact HO
    isplitl [HtS] <;> iassumption
  iexact Hk

/-- The device's own heads, copied into slot `0`. -/
theorem kv_copy (c : Dev nD) {sem : DmaSem sig} (hS : .dma sem = sl 1) {off : Fin 5 → ℕ} (hoff : off = ![0, 0, 0, 4 * c.val, 0])
    {inb inb'} {hsrc : (kvsM off inb).view.WordExact} {hdst : (kvfM 0 inb').view.WordExact}
    {hsem : DmaTarget.Typed .vmem (.dma sem) (.here (kvfM 0 inb') : DmaTarget nD τ sig .tc .vmem S2x2x256x4x64 .bf16)}
    {α : Type} {Q : α → sProp 𝕄} {k : PUnit → Prog (TpuEff nD τ sig (Elt F) Λ₀ .tc) α} :
    iprop(env m K ∗ kvsP c c (kvsV m c) ∗ (∃ f, kvfP c 0 f) ∗ tok c 1 0)
      ⊢ iprop((crd c 1 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (kvsM off inb) (.here (kvfM 0 inb')) (.dma sem) hsrc hdst hsem) k) Q) := by
  iintro ⟨He, Hs, ⟨%f, Hd⟩, HtS⟩ Hk
  iapply (step_copy m K c 1 (by decide) hS (src := kvsM off inb) (dst := kvfM 0 inb') rfl (q := fullShare) (fs := kvsV m c) f
    (kvsP_view c c hoff inb _) (kvfP_view c 0 (dn := 0) rfl inb' _)
    (by
      rw [land_pointsTo c (kvsM off inb) (kvfM 0 inb') (kvsV m c) f (kvfV m c) (kv_land m c c 0 (by rw [add_zero]) rfl hoff inb inb'), ← kvfP_view c 0 (dn := 0) rfl inb', ← kvsP_view c c hoff inb]
      exact Entails.refl _)) $$ [He Hs Hd HtS]
  · isplitl [He]; · iexact He
    isplitl [Hs]; · iexact Hs
    isplitl [Hd] <;> iassumption
  iexact Hk

end Cert.KernelIdealProof
-- ==== Proof.IdealAccess.lean ====
/-
# Loads, stores and whole buffers

The loads and stores of the body as rules on the pieces, and the buffers of a device cut into pieces and put together
again.
-/
module

public import proofs.«01_k».proof.Proof.IdealMoves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 20 → ℕ)

/-! ## Buffers cut into pieces -/

/-- A device's buffers held whole. -/
abbrev kvsW (c : Dev nD) (f : Vec F S2x2x256x16x64 .bf16) : sProp 𝕄 := ((c : Thread nD τ).loc cc0_scratch0) ↦{fullShare} f
abbrev kvfW (c : Dev nD) (f : Vec F S4x2x2x256x4x64 .bf16) : sProp 𝕄 := ((c : Thread nD τ).loc cc0_scratch1) ↦{fullShare} f
abbrev pbW (c : Dev nD) (f : Vec F S512x512 .bf16) : sProp 𝕄 := ((c : Thread nD τ).loc cc0_scratch2) ↦{fullShare} f
abbrev rsW (c : Dev nD) (f : Vec F S4x128x512 .bf16) : sProp 𝕄 := ((c : Thread nD τ).loc cc0_scratch3) ↦{fullShare} f
abbrev redW (c : Dev nD) (f : Vec F S128x512 .bf16) : sProp 𝕄 := ((c : Thread nD τ).loc cc0_scratch4) ↦{fullShare} f
abbrev agW (c : Dev nD) (f : Vec F S4x128x512 .bf16) : sProp 𝕄 := ((c : Thread nD τ).loc cc0_scratch5) ↦{fullShare} f
/-- The input windows at what the launch put there, and the output window. -/
abbrev inP0 (c : Dev nD) : sProp 𝕄 := ((c : Thread nD τ).loc cc0_stg0_0) ↦{fullShare} (in0 m c)
abbrev inP1 (c : Dev nD) : sProp 𝕄 := ((c : Thread nD τ).loc cc0_stg1_0) ↦{fullShare} (in1 m c)
abbrev inP2 (c : Dev nD) : sProp 𝕄 := ((c : Thread nD τ).loc cc0_stg2_0) ↦{fullShare} (in2 m c)
abbrev inP3 (c : Dev nD) : sProp 𝕄 := ((c : Thread nD τ).loc cc0_stg3_0) ↦{fullShare} (in3 m c)
abbrev inP4 (c : Dev nD) : sProp 𝕄 := ((c : Thread nD τ).loc cc0_stg4_0) ↦{fullShare} (in4 m c)
abbrev outP (c : Dev nD) (f : Vec F S2x256x512 .f32) : sProp 𝕄 := ((c : Thread nD τ).loc cc0_stg5_0) ↦{fullShare} f

section Cuts
omit [FloatOps F]

theorem kvs_cover : Finset.univ.biUnion kvsS = Finset.univ := by
  ext i
  have h3 : (i 3).val < 16 := (i 3).isLt
  simp only [Finset.mem_biUnion, Finset.mem_univ, true_and, iff_true]
  exact ⟨⟨(i 3).val / 4, by omega⟩, Finset.mem_filter.mpr ⟨Finset.mem_univ _, rfl⟩⟩
theorem kvf_cover : Finset.univ.biUnion kvfS = Finset.univ := by
  ext i
  simp only [Finset.mem_biUnion, Finset.mem_univ, true_and, iff_true]
  exact ⟨⟨(i 0).val, (i 0).isLt⟩, Finset.mem_filter.mpr ⟨Finset.mem_univ _, rfl⟩⟩
theorem pb_cover : Finset.univ.biUnion pbS = Finset.univ := by
  ext i
  have h3 : (i 0).val < 512 := (i 0).isLt
  simp only [Finset.mem_biUnion, Finset.mem_univ, true_and, iff_true]
  exact ⟨⟨(i 0).val / 128, by omega⟩, Finset.mem_filter.mpr ⟨Finset.mem_univ _, rfl⟩⟩
theorem row_cover : Finset.univ.biUnion rowS = Finset.univ := by
  ext i
  simp only [Finset.mem_biUnion, Finset.mem_univ, true_and, iff_true]
  exact ⟨⟨(i 0).val, (i 0).isLt⟩, Finset.mem_filter.mpr ⟨Finset.mem_univ _, rfl⟩⟩

theorem kvs_disj (b b' : Fin 4) (h : b ≠ b') : Disjoint (kvsS b) (kvsS b') :=
  Finset.disjoint_filter.mpr fun i _ h1 h2 => h (Fin.ext (h1.symm.trans h2))
theorem kvf_disj (b b' : Fin 4) (h : b ≠ b') : Disjoint (kvfS b) (kvfS b') :=
  Finset.disjoint_filter.mpr fun i _ h1 h2 => h (Fin.ext (h1.symm.trans h2))
theorem pb_disj (b b' : Fin 4) (h : b ≠ b') : Disjoint (pbS b) (pbS b') :=
  Finset.disjoint_filter.mpr fun i _ h1 h2 => h (Fin.ext (h1.symm.trans h2))
theorem row_disj (b b' : Fin 4) (h : b ≠ b') : Disjoint (rowS b) (rowS b') :=
  Finset.disjoint_filter.mpr fun i _ h1 h2 => h (Fin.ext (h1.symm.trans h2))

/-- A family over the four devices, listed from device `c` on. -/
theorem four_from (c : Dev nD) (P : Fin 4 → sProp 𝕄) : bigSep Finset.univ P = iprop(P c ∗ P (c + 1) ∗ P (c + 2) ∗ P (c + 3)) := by
  rw [bigSep_eq_bigSepL_of_eq [c, c + 1, c + 2, c + 3] (by revert c; decide) (by revert c; decide), bigSepL_cons_cons, bigSepL_cons_cons,
    bigSepL_cons_cons, bigSepL_singleton]
  rfl

theorem four (P : Fin 4 → sProp 𝕄) : bigSep Finset.univ P = iprop(P 0 ∗ P 1 ∗ P 2 ∗ P 3) := four_from 0 P

theorem kvs_split (c : Dev nD) (f : Vec F S2x2x256x16x64 .bf16) :
    kvsW c f = iprop(kvsP c c f ∗ kvsP c (c + 1) f ∗ kvsP c (c + 2) f ∗ kvsP c (c + 3) f) := by
  have h := Ring.pointsTo_blocks (ℓ := (c : Thread nD τ).loc cc0_scratch0) (Ix := Unit) (Name := ℕ) (U := UU) (Lvl := ℕ) kvsS kvs_disj kvs_cover (q := fullShare) f
  rw [four_from c] at h
  exact h
theorem kvf_split (c : Dev nD) (f : Vec F S4x2x2x256x4x64 .bf16) :
    kvfW c f = iprop(kvfP c 0 f ∗ kvfP c 1 f ∗ kvfP c 2 f ∗ kvfP c 3 f) := by
  have h := Ring.pointsTo_blocks (ℓ := (c : Thread nD τ).loc cc0_scratch1) (Ix := Unit) (Name := ℕ) (U := UU) (Lvl := ℕ) kvfS kvf_disj kvf_cover (q := fullShare) f
  rw [four] at h
  exact h
theorem pb_split (c : Dev nD) (f : Vec F S512x512 .bf16) :
    pbW c f = iprop(pbP c c f ∗ pbP c (c + 1) f ∗ pbP c (c + 2) f ∗ pbP c (c + 3) f) := by
  have h := Ring.pointsTo_blocks (ℓ := (c : Thread nD τ).loc cc0_scratch2) (Ix := Unit) (Name := ℕ) (U := UU) (Lvl := ℕ) pbS pb_disj pb_cover (q := fullShare) f
  rw [four_from c] at h
  exact h
theorem rs_split (c : Dev nD) (f : Vec F S4x128x512 .bf16) :
    rsW c f = iprop(rsP c 0 f ∗ rsP c 1 f ∗ rsP c 2 f ∗ rsP c 3 f) := by
  have h := Ring.pointsTo_blocks (ℓ := (c : Thread nD τ).loc cc0_scratch3) (Ix := Unit) (Name := ℕ) (U := UU) (Lvl := ℕ) rowS row_disj row_cover (q := fullShare) f
  rw [four] at h
  exact h
theorem ag_split (c : Dev nD) (f : Vec F S4x128x512 .bf16) :
    agW c f = iprop(agP c 0 f ∗ agP c 1 f ∗ agP c 2 f ∗ agP c 3 f) := by
  have h := Ring.pointsTo_blocks (ℓ := (c : Thread nD τ).loc cc0_scratch5) (Ix := Unit) (Name := ℕ) (U := UU) (Lvl := ℕ) rowS row_disj row_cover (q := fullShare) f
  rw [four] at h
  exact h

theorem rs_join (c : Dev nD) (f : Vec F S4x128x512 .bf16) :
    iprop((∃ f, rsP (F := F) c 0 f) ∗ rsP c 1 f ∗ rsP c 2 f ∗ rsP c 3 f) ⊢ iprop(∃ f, rsW (F := F) c f) := by
  have h := Ring.pointsTo_blocks_join_exists (ℓ := (c : Thread nD τ).loc cc0_scratch3) (Ix := Unit) (Name := ℕ) (U := UU) (Lvl := ℕ) rowS row_disj row_cover (q := fullShare) f
  rw [four] at h
  refine BIBase.Entails.trans ?_ h
  unfold rsP
  iintro ⟨H0, H1, H2, H3⟩
  isplitl [H0]; · iexact H0
  isplitl [H1]; · iexists f; iexact H1
  isplitl [H2]; · iexists f; iexact H2
  iexists f; iexact H3
theorem ag_join (c : Dev nD) (f : Vec F S4x128x512 .bf16) :
    iprop((∃ f, agP (F := F) c 0 f) ∗ agP c 1 f ∗ agP c 2 f ∗ agP c 3 f) ⊢ iprop(∃ f, agW (F := F) c f) := by
  have h := Ring.pointsTo_blocks_join_exists (ℓ := (c : Thread nD τ).loc cc0_scratch5) (Ix := Unit) (Name := ℕ) (U := UU) (Lvl := ℕ) rowS row_disj row_cover (q := fullShare) f
  rw [four] at h
  refine BIBase.Entails.trans ?_ h
  unfold agP
  iintro ⟨H0, H1, H2, H3⟩
  isplitl [H0]; · iexact H0
  isplitl [H1]; · iexists f; iexact H1
  isplitl [H2]; · iexists f; iexact H2
  iexists f; iexact H3

/-- The reduced rows in three shares that travel and one that stays. -/
theorem red_split (c : Dev nD) (f : Vec F S128x512 .bf16) :
    redW c f ⊣⊢ iprop(redP (F := F) c (Transfers.shareDrop fullShare 3) f ∗ redP c (redQ 0) f ∗ redP c (redQ 1) f ∗ redP c (redQ 2) f) := by
  have h := Transfers.pointsTo_toks (Ix := Unit) (Name := ℕ) (U := UU) (Lvl := ℕ) (ℓ := (c : Thread nD τ).loc cc0_scratch4) (S := Finset.univ) (f := f) fullShare 3
  rw [bigSep_eq_bigSepL_of_eq [0, 1, 2] (by decide) (by decide), bigSepL_cons_cons, bigSepL_cons_cons, bigSepL_singleton] at h
  exact h

end Cuts

/-! ## Loads and stores -/

section Acc
variable (c : Dev nD)

/-- A load from a buffer held whole. -/
theorem load_any {α : Type} {Q : α → sProp 𝕄} {s : Shape} {e : EltTy} {b : Memref sig .tc .vmem s e} {r : LoadRect s} {hl : b.view.LoadsAt r} {q : PosShare TreeShare}
    {f : Buf (Elt F) (b.view.loc (c : Thread nD τ))} {k : (r.shape.Idx → Elt F e) → Prog (TpuEff nD τ sig (Elt F) Λ₀ .tc) α} :
    (b.view.loc (c : Thread nD τ) ↦{q} f : sProp 𝕄)
      ⊢ iprop(((b.view.loc (c : Thread nD τ) ↦{q} f) -∗ wp frame (wpE (defs₀ (F := F)) 𝒱₀ (c : Thread nD τ) none) Set.univ (k (b.view.readAt (Elt F) r f)) Q) -∗ wp frame (wpE (defs₀ (F := F)) 𝒱₀ (c : Thread nD τ) none) Set.univ (.op (.load b r hl) k) Q) :=
  wp_load 𝒱₀ (c : Thread nD τ) none Set.univ (Finset.subset_univ _)

/-- A store into a buffer held whole. -/
theorem store_any {α : Type} {Q : α → sProp 𝕄} {s : Shape} {e : EltTy} {b : Memref sig .tc .vmem s e} {r : Rect s} {w : r.shape.Idx → Elt F e}
    {hx : (b.access r).Stores Finset.univ} {hm : (Finset.univ : Finset r.shape.Idx) = Finset.univ ∨ ∀ a, r.stride a = 1}
    {f : Buf (Elt F) ((b.access r).loc (c : Thread nD τ))} {k : PUnit → Prog (TpuEff nD τ sig (Elt F) Λ₀ .tc) α} :
    ((b.access r).loc (c : Thread nD τ) ↦{fullShare} f : sProp 𝕄)
      ⊢ iprop((((b.access r).loc (c : Thread nD τ) ↦{fullShare} ((b.access r).write (Elt F) f w Finset.univ)) -∗ wp frame (wpE (defs₀ (F := F)) 𝒱₀ (c : Thread nD τ) none) Set.univ (k ⟨⟩) Q)
        -∗ wp frame (wpE (defs₀ (F := F)) 𝒱₀ (c : Thread nD τ) none) Set.univ (.op (.store b r w Finset.univ hx hm) k) Q) :=
  wp_store 𝒱₀ (c : Thread nD τ) none Set.univ (Finset.subset_univ _)

/-- A load of one slot of the landing buffer of keys and values. -/
theorem load_kvf {α : Type} {Q : α → sProp 𝕄} (d : Fin 4) {dn : ℕ} (hd : dn = d.val) (inb) (f : Vec F S4x2x2x256x4x64 .bf16)
    {hl : (Memref.whole cc0_scratch1 : Memref sig .tc .vmem S4x2x2x256x4x64 .bf16).view.LoadsAt (Rect.unit (s := S4x2x2x256x4x64) ![dn, 0, 0, 0, 0, 0] S1x2x2x256x4x64.size inb).toLoadRect}
    {k : Vec F S1x2x2x256x4x64 .bf16 → Prog (TpuEff nD τ sig (Elt F) Λ₀ .tc) α} :
    kvfP (F := F) c d f
      ⊢ iprop((kvfP c d f -∗ wp frame (wpE (defs₀ (F := F)) 𝒱₀ (c : Thread nD τ) none) Set.univ (k ((Memref.whole cc0_scratch1).view.readAt (Elt F) (Rect.unit (s := S4x2x2x256x4x64) ![dn, 0, 0, 0, 0, 0] S1x2x2x256x4x64.size inb).toLoadRect f)) Q)
        -∗ wp frame (wpE (defs₀ (F := F)) 𝒱₀ (c : Thread nD τ) none) Set.univ (.op (.load (Memref.whole cc0_scratch1) (Rect.unit (s := S4x2x2x256x4x64) ![dn, 0, 0, 0, 0, 0] S1x2x2x256x4x64.size inb).toLoadRect hl) k) Q) := by
  have hs : ((Memref.whole cc0_scratch1).access (Rect.unit (s := S4x2x2x256x4x64) ![dn, 0, 0, 0, 0, 0] S1x2x2x256x4x64.size inb)).set = kvfS d := (View.set_slice_whole _ _).trans (kvf_rect d hd inb)
  exact wp_load_rect (m := Memref.whole cc0_scratch1) (r := (Rect.unit (s := S4x2x2x256x4x64) ![dn, 0, 0, 0, 0, 0] S1x2x2x256x4x64.size inb)) (hl := hl) (k := k) (Q := Q) (q := fullShare) (f := f) 𝒱₀ (c : Thread nD τ) none Set.univ hs.le

/-- A load of one slot of the landing buffer of partial products. -/
theorem load_rs {α : Type} {Q : α → sProp 𝕄} (d : Fin 4) {dn : ℕ} (hd : dn = d.val) (inb) (f : Vec F S4x128x512 .bf16)
    {hl : (Memref.whole cc0_scratch3 : Memref sig .tc .vmem S4x128x512 .bf16).view.LoadsAt (Rect.unit (s := S4x128x512) ![dn, 0, 0] S1x128x512.size inb).toLoadRect}
    {k : Vec F S1x128x512 .bf16 → Prog (TpuEff nD τ sig (Elt F) Λ₀ .tc) α} :
    rsP (F := F) c d f
      ⊢ iprop((rsP c d f -∗ wp frame (wpE (defs₀ (F := F)) 𝒱₀ (c : Thread nD τ) none) Set.univ (k ((Memref.whole cc0_scratch3).view.readAt (Elt F) (Rect.unit (s := S4x128x512) ![dn, 0, 0] S1x128x512.size inb).toLoadRect f)) Q)
        -∗ wp frame (wpE (defs₀ (F := F)) 𝒱₀ (c : Thread nD τ) none) Set.univ (.op (.load (Memref.whole cc0_scratch3) (Rect.unit (s := S4x128x512) ![dn, 0, 0] S1x128x512.size inb).toLoadRect hl) k) Q) := by
  have hs : ((Memref.whole cc0_scratch3).access (Rect.unit (s := S4x128x512) ![dn, 0, 0] S1x128x512.size inb)).set = rowS d := (View.set_slice_whole _ _).trans (row_rect d hd inb)
  exact wp_load_rect (m := Memref.whole cc0_scratch3) (r := (Rect.unit (s := S4x128x512) ![dn, 0, 0] S1x128x512.size inb)) (hl := hl) (k := k) (Q := Q) (q := fullShare) (f := f) 𝒱₀ (c : Thread nD τ) none Set.univ hs.le

/-- A load of one slot of the landing buffer of reduced rows. -/
theorem load_ag {α : Type} {Q : α → sProp 𝕄} (d : Fin 4) {dn : ℕ} (hd : dn = d.val) (inb) (f : Vec F S4x128x512 .bf16)
    {hl : (Memref.whole cc0_scratch5 : Memref sig .tc .vmem S4x128x512 .bf16).view.LoadsAt (Rect.unit (s := S4x128x512) ![dn, 0, 0] S1x128x512.size inb).toLoadRect}
    {k : Vec F S1x128x512 .bf16 → Prog (TpuEff nD τ sig (Elt F) Λ₀ .tc) α} :
    agP (F := F) c d f
      ⊢ iprop((agP c d f -∗ wp frame (wpE (defs₀ (F := F)) 𝒱₀ (c : Thread nD τ) none) Set.univ (k ((Memref.whole cc0_scratch5).view.readAt (Elt F) (Rect.unit (s := S4x128x512) ![dn, 0, 0] S1x128x512.size inb).toLoadRect f)) Q)
        -∗ wp frame (wpE (defs₀ (F := F)) 𝒱₀ (c : Thread nD τ) none) Set.univ (.op (.load (Memref.whole cc0_scratch5) (Rect.unit (s := S4x128x512) ![dn, 0, 0] S1x128x512.size inb).toLoadRect hl) k) Q) := by
  have hs : ((Memref.whole cc0_scratch5).access (Rect.unit (s := S4x128x512) ![dn, 0, 0] S1x128x512.size inb)).set = rowS d := (View.set_slice_whole _ _).trans (row_rect d hd inb)
  exact wp_load_rect (m := Memref.whole cc0_scratch5) (r := (Rect.unit (s := S4x128x512) ![dn, 0, 0] S1x128x512.size inb)) (hl := hl) (k := k) (Q := Q) (q := fullShare) (f := f) 𝒱₀ (c : Thread nD τ) none Set.univ hs.le

/-- A load of a row block of the partial product. -/
theorem load_pb {α : Type} {Q : α → sProp 𝕄} (b : Fin 4) {off : Fin 2 → ℕ} (hoff : off = ![128 * b.val, 0]) (inb) (f : Vec F S512x512 .bf16)
    {hl : (Memref.whole cc0_scratch2 : Memref sig .tc .vmem S512x512 .bf16).view.LoadsAt (Rect.unit (s := S512x512) off S128x512.size inb).toLoadRect}
    {k : Vec F S128x512 .bf16 → Prog (TpuEff nD τ sig (Elt F) Λ₀ .tc) α} :
    pbP (F := F) c b f
      ⊢ iprop((pbP c b f -∗ wp frame (wpE (defs₀ (F := F)) 𝒱₀ (c : Thread nD τ) none) Set.univ (k ((Memref.whole cc0_scratch2).view.readAt (Elt F) (Rect.unit (s := S512x512) off S128x512.size inb).toLoadRect f)) Q)
        -∗ wp frame (wpE (defs₀ (F := F)) 𝒱₀ (c : Thread nD τ) none) Set.univ (.op (.load (Memref.whole cc0_scratch2) (Rect.unit (s := S512x512) off S128x512.size inb).toLoadRect hl) k) Q) := by
  have hs : ((Memref.whole cc0_scratch2).access (Rect.unit (s := S512x512) off S128x512.size inb)).set = pbS b := (View.set_slice_whole _ _).trans (pb_rect b hoff inb)
  exact wp_load_rect (m := Memref.whole cc0_scratch2) (r := (Rect.unit (s := S512x512) off S128x512.size inb)) (hl := hl) (k := k) (Q := Q) (q := fullShare) (f := f) 𝒱₀ (c : Thread nD τ) none Set.univ hs.le

end Acc

/-! ## What the stores leave -/

abbrev r6_0 : Rect S2x2x256x16x64 := Rect.unit (s := S2x2x256x16x64) ![0, 0, 0, 0, 0] S1x2x256x16x64.size inb_S2x2x256x16x64_S1x2x256x16x64_0_0_0_0_0
abbrev r6_1 : Rect S2x2x256x16x64 := Rect.unit (s := S2x2x256x16x64) ![1, 0, 0, 0, 0] S1x2x256x16x64.size inb_S2x2x256x16x64_S1x2x256x16x64_1_0_0_0_0

/-- Both stores of the key/value buffer, over any earlier contents. -/
theorem kvs_stored (c : Dev nD) (f : Vec F S2x2x256x16x64 .bf16) :
    ((Memref.whole cc0_scratch0).access r6_1).write (Elt F)
        (((Memref.whole cc0_scratch0).access r6_0).write (Elt F) f (k0_pay1 (in2 m c)) Finset.univ) (k0_pay2 (in3 m c)) Finset.univ
      = kvsV m c := by
  funext i
  have h0 : (i 0).val < 2 := (i 0).isLt
  have hi : i = ix5 (i 0) (i 1) (i 2) (i 3) (i 4) := eq_ix5 i
  by_cases h : (i 0).val = 0
  · have he : i = ((Memref.whole cc0_scratch0).access r6_0).emb (ix5 0 (i 1) (i 2) (i 3) (i 4)) := by
      funext a
      fin_cases a
      · exact Fin.ext h
      · exact Fin.ext (by show (i 1).val = 0 + 1 * (i 1).val; omega)
      · exact Fin.ext (by show (i 2).val = 0 + 1 * (i 2).val; omega)
      · exact Fin.ext (by show (i 3).val = 0 + 1 * (i 3).val; omega)
      · exact Fin.ext (by show (i 4).val = 0 + 1 * (i 4).val; omega)
    have hn : i ∉ ((Memref.whole cc0_scratch0).access r6_1).setOn Finset.univ := by
      rw [View.setOn_univ]
      have hs : ((Memref.whole cc0_scratch0).access r6_1).set = r6_1.set := View.set_slice_whole _ _
      rw [hs, Rect.mem_set_unit]
      intro hc
      have h1 := (hc 0).1
      simp only [Matrix.cons_val] at h1
      omega
    rw [View.write_of_not_mem _ _ _ hn]
    unfold kvsV
    rw [if_pos h]
    conv_lhs => rw [he]
    rw [View.write_emb_of_mem _ _ (Finset.mem_univ _)]
    rfl
  · have he : i = ((Memref.whole cc0_scratch0).access r6_1).emb (ix5 0 (i 1) (i 2) (i 3) (i 4)) := by
      funext a
      fin_cases a
      · exact Fin.ext (by show (i 0).val = 1 + 1 * 0; omega)
      · exact Fin.ext (by show (i 1).val = 0 + 1 * (i 1).val; omega)
      · exact Fin.ext (by show (i 2).val = 0 + 1 * (i 2).val; omega)
      · exact Fin.ext (by show (i 3).val = 0 + 1 * (i 3).val; omega)
      · exact Fin.ext (by show (i 4).val = 0 + 1 * (i 4).val; omega)
    unfold kvsV
    rw [if_neg h]
    conv_lhs => rw [he]
    rw [View.write_emb_of_mem _ _ (Finset.mem_univ _)]
    rfl

/-! ## Loads of the inputs, stores over whole buffers -/

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

/-- The load of input 0, whole. -/
theorem load_in0 (c : Dev nD) {α : Type} {Q : α → sProp 𝕄} (inb)
    {hl : (Memref.whole cc0_stg0_0 : Memref sig .tc .vmem S2x256x512 .f32).view.LoadsAt (Rect.unit (s := S2x256x512) ![0, 0, 0] S2x256x512.size inb).toLoadRect}
    {k : Vec F S2x256x512 .f32 → Prog (TpuEff nD τ sig (Elt F) Λ₀ .tc) α} :
    inP0 m c
      ⊢ iprop((inP0 m c -∗ wp frame (wpE (defs₀ (F := F)) 𝒱₀ (c : Thread nD τ) none) Set.univ (k (in0 m c)) Q)
        -∗ wp frame (wpE (defs₀ (F := F)) 𝒱₀ (c : Thread nD τ) none) Set.univ (.op (.load (Memref.whole cc0_stg0_0) (Rect.unit (s := S2x256x512) ![0, 0, 0] S2x256x512.size inb).toLoadRect hl) k) Q) := by
  have h : (Memref.whole cc0_stg0_0 : Memref sig .tc .vmem S2x256x512 .f32).view.readAt (Elt F) (Rect.unit (s := S2x256x512) ![0, 0, 0] S2x256x512.size inb).toLoadRect (in0 m c) = in0 m c :=
    Memref.readAt_unit_zero (Elt F) cc0_stg0_0 z3 inb _
  have H := load_any (F := F) c (Q := Q) (b := Memref.whole cc0_stg0_0) (r := (Rect.unit (s := S2x256x512) ![0, 0, 0] S2x256x512.size inb).toLoadRect) (hl := hl) (q := fullShare) (f := in0 m c) (k := k)
  rw [h] at H
  exact H

/-- The load of input 1, whole. -/
theorem load_in1 (c : Dev nD) {α : Type} {Q : α → sProp 𝕄} (inb)
    {hl : (Memref.whole cc0_stg1_0 : Memref sig .tc .vmem S512x256 .f32).view.LoadsAt (Rect.unit (s := S512x256) ![0, 0] S512x256.size inb).toLoadRect}
    {k : Vec F S512x256 .f32 → Prog (TpuEff nD τ sig (Elt F) Λ₀ .tc) α} :
    inP1 m c
      ⊢ iprop((inP1 m c -∗ wp frame (wpE (defs₀ (F := F)) 𝒱₀ (c : Thread nD τ) none) Set.univ (k (in1 m c)) Q)
        -∗ wp frame (wpE (defs₀ (F := F)) 𝒱₀ (c : Thread nD τ) none) Set.univ (.op (.load (Memref.whole cc0_stg1_0) (Rect.unit (s := S512x256) ![0, 0] S512x256.size inb).toLoadRect hl) k) Q) := by
  have h : (Memref.whole cc0_stg1_0 : Memref sig .tc .vmem S512x256 .f32).view.readAt (Elt F) (Rect.unit (s := S512x256) ![0, 0] S512x256.size inb).toLoadRect (in1 m c) = in1 m c :=
    Memref.readAt_unit_zero (Elt F) cc0_stg1_0 z2 inb _
  have H := load_any (F := F) c (Q := Q) (b := Memref.whole cc0_stg1_0) (r := (Rect.unit (s := S512x256) ![0, 0] S512x256.size inb).toLoadRect) (hl := hl) (q := fullShare) (f := in1 m c) (k := k)
  rw [h] at H
  exact H

/-- The load of input 2, whole. -/
theorem load_in2 (c : Dev nD) {α : Type} {Q : α → sProp 𝕄} (inb)
    {hl : (Memref.whole cc0_stg2_0 : Memref sig .tc .vmem S2x256x16x64 .f32).view.LoadsAt (Rect.unit (s := S2x256x16x64) ![0, 0, 0, 0] S2x256x16x64.size inb).toLoadRect}
    {k : Vec F S2x256x16x64 .f32 → Prog (TpuEff nD τ sig (Elt F) Λ₀ .tc) α} :
    inP2 m c
      ⊢ iprop((inP2 m c -∗ wp frame (wpE (defs₀ (F := F)) 𝒱₀ (c : Thread nD τ) none) Set.univ (k (in2 m c)) Q)
        -∗ wp frame (wpE (defs₀ (F := F)) 𝒱₀ (c : Thread nD τ) none) Set.univ (.op (.load (Memref.whole cc0_stg2_0) (Rect.unit (s := S2x256x16x64) ![0, 0, 0, 0] S2x256x16x64.size inb).toLoadRect hl) k) Q) := by
  have h : (Memref.whole cc0_stg2_0 : Memref sig .tc .vmem S2x256x16x64 .f32).view.readAt (Elt F) (Rect.unit (s := S2x256x16x64) ![0, 0, 0, 0] S2x256x16x64.size inb).toLoadRect (in2 m c) = in2 m c :=
    Memref.readAt_unit_zero (Elt F) cc0_stg2_0 z4 inb _
  have H := load_any (F := F) c (Q := Q) (b := Memref.whole cc0_stg2_0) (r := (Rect.unit (s := S2x256x16x64) ![0, 0, 0, 0] S2x256x16x64.size inb).toLoadRect) (hl := hl) (q := fullShare) (f := in2 m c) (k := k)
  rw [h] at H
  exact H

/-- The load of input 3, whole. -/
theorem load_in3 (c : Dev nD) {α : Type} {Q : α → sProp 𝕄} (inb)
    {hl : (Memref.whole cc0_stg3_0 : Memref sig .tc .vmem S2x256x16x64 .f32).view.LoadsAt (Rect.unit (s := S2x256x16x64) ![0, 0, 0, 0] S2x256x16x64.size inb).toLoadRect}
    {k : Vec F S2x256x16x64 .f32 → Prog (TpuEff nD τ sig (Elt F) Λ₀ .tc) α} :
    inP3 m c
      ⊢ iprop((inP3 m c -∗ wp frame (wpE (defs₀ (F := F)) 𝒱₀ (c : Thread nD τ) none) Set.univ (k (in3 m c)) Q)
        -∗ wp frame (wpE (defs₀ (F := F)) 𝒱₀ (c : Thread nD τ) none) Set.univ (.op (.load (Memref.whole cc0_stg3_0) (Rect.unit (s := S2x256x16x64) ![0, 0, 0, 0] S2x256x16x64.size inb).toLoadRect hl) k) Q) := by
  have h : (Memref.whole cc0_stg3_0 : Memref sig .tc .vmem S2x256x16x64 .f32).view.readAt (Elt F) (Rect.unit (s := S2x256x16x64) ![0, 0, 0, 0] S2x256x16x64.size inb).toLoadRect (in3 m c) = in3 m c :=
    Memref.readAt_unit_zero (Elt F) cc0_stg3_0 z4 inb _
  have H := load_any (F := F) c (Q := Q) (b := Memref.whole cc0_stg3_0) (r := (Rect.unit (s := S2x256x16x64) ![0, 0, 0, 0] S2x256x16x64.size inb).toLoadRect) (hl := hl) (q := fullShare) (f := in3 m c) (k := k)
  rw [h] at H
  exact H

/-- The load of input 4, whole. -/
theorem load_in4 (c : Dev nD) {α : Type} {Q : α → sProp 𝕄} (inb)
    {hl : (Memref.whole cc0_stg4_0 : Memref sig .tc .vmem S256x512 .f32).view.LoadsAt (Rect.unit (s := S256x512) ![0, 0] S256x512.size inb).toLoadRect}
    {k : Vec F S256x512 .f32 → Prog (TpuEff nD τ sig (Elt F) Λ₀ .tc) α} :
    inP4 m c
      ⊢ iprop((inP4 m c -∗ wp frame (wpE (defs₀ (F := F)) 𝒱₀ (c : Thread nD τ) none) Set.univ (k (in4 m c)) Q)
        -∗ wp frame (wpE (defs₀ (F := F)) 𝒱₀ (c : Thread nD τ) none) Set.univ (.op (.load (Memref.whole cc0_stg4_0) (Rect.unit (s := S256x512) ![0, 0] S256x512.size inb).toLoadRect hl) k) Q) := by
  have h : (Memref.whole cc0_stg4_0 : Memref sig .tc .vmem S256x512 .f32).view.readAt (Elt F) (Rect.unit (s := S256x512) ![0, 0] S256x512.size inb).toLoadRect (in4 m c) = in4 m c :=
    Memref.readAt_unit_zero (Elt F) cc0_stg4_0 z2 inb _
  have H := load_any (F := F) c (Q := Q) (b := Memref.whole cc0_stg4_0) (r := (Rect.unit (s := S256x512) ![0, 0] S256x512.size inb).toLoadRect) (hl := hl) (q := fullShare) (f := in4 m c) (k := k)
  rw [h] at H
  exact H

/-- A store over the whole partial product. -/
theorem store_pb (c : Dev nD) {α : Type} {Q : α → sProp 𝕄} (inb) {w : Vec F S512x512 .bf16} {V : Vec F S512x512 .bf16} (hw : w = V)
    {hx : ((Memref.whole cc0_scratch2 : Memref sig .tc .vmem S512x512 .bf16).access (Rect.unit (s := S512x512) ![0, 0] S512x512.size inb)).Stores Finset.univ}
    {hm} {f : Vec F S512x512 .bf16} {k : PUnit → Prog (TpuEff nD τ sig (Elt F) Λ₀ .tc) α} :
    pbW c f ⊢ iprop((pbW c V -∗ wp frame (wpE (defs₀ (F := F)) 𝒱₀ (c : Thread nD τ) none) Set.univ (k ⟨⟩) Q)
        -∗ wp frame (wpE (defs₀ (F := F)) 𝒱₀ (c : Thread nD τ) none) Set.univ (.op (.store (Memref.whole cc0_scratch2) (Rect.unit (s := S512x512) ![0, 0] S512x512.size inb) w Finset.univ hx hm) k) Q) := by
  subst hw
  have h : ((Memref.whole cc0_scratch2).access (Rect.unit (s := S512x512) ![0, 0] S512x512.size inb)).write (Elt F) f w Finset.univ = w :=
    Memref.write_access_unit_zero_univ (Elt F) cc0_scratch2 z2 inb f w
  have H := store_any (F := F) c (Q := Q) (b := Memref.whole cc0_scratch2) (r := Rect.unit (s := S512x512) ![0, 0] S512x512.size inb) (w := w) (hx := hx) (hm := hm) (f := f) (k := k)
  rw [h] at H
  exact H

/-- A store over the whole of the reduced rows. -/
theorem store_red (c : Dev nD) {α : Type} {Q : α → sProp 𝕄} (inb) {w : Vec F S128x512 .bf16} {V : Vec F S128x512 .bf16} (hw : w = V)
    {hx : ((Memref.whole cc0_scratch4 : Memref sig .tc .vmem S128x512 .bf16).access (Rect.unit (s := S128x512) ![0, 0] S128x512.size inb)).Stores Finset.univ}
    {hm} {f : Vec F S128x512 .bf16} {k : PUnit → Prog (TpuEff nD τ sig (Elt F) Λ₀ .tc) α} :
    redW c f ⊢ iprop((redW c V -∗ wp frame (wpE (defs₀ (F := F)) 𝒱₀ (c : Thread nD τ) none) Set.univ (k ⟨⟩) Q)
        -∗ wp frame (wpE (defs₀ (F := F)) 𝒱₀ (c : Thread nD τ) none) Set.univ (.op (.store (Memref.whole cc0_scratch4) (Rect.unit (s := S128x512) ![0, 0] S128x512.size inb) w Finset.univ hx hm) k) Q) := by
  subst hw
  have h : ((Memref.whole cc0_scratch4).access (Rect.unit (s := S128x512) ![0, 0] S128x512.size inb)).write (Elt F) f w Finset.univ = w :=
    Memref.write_access_unit_zero_univ (Elt F) cc0_scratch4 z2 inb f w
  have H := store_any (F := F) c (Q := Q) (b := Memref.whole cc0_scratch4) (r := Rect.unit (s := S128x512) ![0, 0] S128x512.size inb) (w := w) (hx := hx) (hm := hm) (f := f) (k := k)
  rw [h] at H
  exact H

/-- The second store of the key/value buffer: after it the buffer holds the keys and the values. -/
theorem store_kvs (c : Dev nD) {α : Type} {Q : α → sProp 𝕄}
    {hx : ((Memref.whole cc0_scratch0 : Memref sig .tc .vmem S2x2x256x16x64 .bf16).access r6_1).Stores Finset.univ}
    {hm} {f : Vec F S2x2x256x16x64 .bf16} {k : PUnit → Prog (TpuEff nD τ sig (Elt F) Λ₀ .tc) α} :
    kvsW c (((Memref.whole cc0_scratch0).access r6_0).write (Elt F) f (k0_pay1 (in2 m c)) Finset.univ)
      ⊢ iprop((kvsW c (kvsV m c) -∗ wp frame (wpE (defs₀ (F := F)) 𝒱₀ (c : Thread nD τ) none) Set.univ (k ⟨⟩) Q)
        -∗ wp frame (wpE (defs₀ (F := F)) 𝒱₀ (c : Thread nD τ) none) Set.univ (.op (.store (Memref.whole cc0_scratch0) r6_1 (k0_pay2 (in3 m c)) Finset.univ hx hm) k) Q) := by
  have H := store_any (F := F) c (Q := Q) (b := Memref.whole cc0_scratch0) (r := r6_1) (w := k0_pay2 (in3 m c)) (hx := hx) (hm := hm)
    (f := ((Memref.whole cc0_scratch0).access r6_0).write (Elt F) f (k0_pay1 (in2 m c)) Finset.univ) (k := k)
  rw [kvs_stored m c f] at H
  exact H

/-! ## The result's rows -/

/-- The result after a store of 128 rows. -/
abbrev wr5 (off : Fin 3 → ℕ) (inb : ∀ a, off a + S1x128x512.size a ≤ S2x256x512.size a) (f : Vec F S2x256x512 .f32) (w : Vec F S1x128x512 .f32) : Vec F S2x256x512 .f32 :=
  ((Memref.whole cc0_stg5_0).access (Rect.unit (s := S2x256x512) off S1x128x512.size inb)).write (Elt F) f w Finset.univ

theorem wr5_at (t : ℕ) (ht : t < 4) {off : Fin 3 → ℕ} (hoff : off = ![t / 2, 128 * (t % 2), 0]) (inb) (f : Vec F S2x256x512 .f32) (w : Vec F S1x128x512 .f32) (i : S2x256x512.Idx) :
    wr5 off inb f w i = if 2 * (i 0).val + (i 1).val / 128 = t then w (ix3 0 ⟨(i 1).val % 128, Nat.mod_lt _ (by decide)⟩ (i 2)) else f i := by
  subst hoff
  have h0 : (i 0).val < 2 := (i 0).isLt
  have h1 : (i 1).val < 256 := (i 1).isLt
  have h2 : (i 2).val < 512 := (i 2).isLt
  split
  · next h =>
    have he : i = ((Memref.whole cc0_stg5_0).access (Rect.unit (s := S2x256x512) ![t / 2, 128 * (t % 2), 0] S1x128x512.size inb)).emb
        (ix3 0 ⟨(i 1).val % 128, Nat.mod_lt _ (by decide)⟩ (i 2)) := by
      funext a
      fin_cases a
      · exact Fin.ext (by show (i 0).val = t / 2 + 1 * 0; omega)
      · exact Fin.ext (by show (i 1).val = 128 * (t % 2) + 1 * ((i 1).val % 128); omega)
      · exact Fin.ext (by show (i 2).val = 0 + 1 * (i 2).val; omega)
    unfold wr5
    conv_lhs => rw [he]
    rw [View.write_emb_of_mem _ _ (Finset.mem_univ _)]
    rfl
  · next h =>
    have hn : i ∉ ((Memref.whole cc0_stg5_0).access (Rect.unit (s := S2x256x512) ![t / 2, 128 * (t % 2), 0] S1x128x512.size inb)).setOn Finset.univ := by
      rw [View.setOn_univ]
      have hs : ((Memref.whole cc0_stg5_0).access (Rect.unit (s := S2x256x512) ![t / 2, 128 * (t % 2), 0] S1x128x512.size inb)).set
        = (Rect.unit (s := S2x256x512) ![t / 2, 128 * (t % 2), 0] S1x128x512.size inb).set := View.set_slice_whole _ _
      rw [hs, Rect.mem_set_unit]
      intro hc
      have e0 := hc 0
      have e1 := hc 1
      simp only [Matrix.cons_val] at e0 e1
      omega
    exact View.write_of_not_mem _ _ _ hn

theorem off6_1 (c : Dev nD) : k0_off6 c 1#32 = ![((c.val + 3) % 4) / 2, 128 * (((c.val + 3) % 4) % 2), 0] := by revert c; decide +kernel
theorem off6_2 (c : Dev nD) : k0_off6 c 2#32 = ![((c.val + 2) % 4) / 2, 128 * (((c.val + 2) % 4) % 2), 0] := by revert c; decide +kernel
theorem off6_3 (c : Dev nD) : k0_off6 c 3#32 = ![((c.val + 1) % 4) / 2, 128 * (((c.val + 1) % 4) % 2), 0] := by revert c; decide +kernel

/-- The four stores of the result, over any earlier contents. -/
theorem out_stored (c : Dev nD) (f : Vec F S2x256x512 .f32) :
    wr5 (k0_off6 c 3#32) (k0_off6_inb c 2) (wr5 (k0_off6 c 2#32) (k0_off6_inb c 1) (wr5 (k0_off6 c 1#32) (k0_off6_inb c 0)
      (wr5 (k0_off5 c) (k0_off5_inb c) f (k0_pay31 (redF m c))) (k0_pay32 (ld11_1 m c))) (k0_pay34 (k0_pay33 (ld11_2 m c)))) (k0_pay36 (k0_pay35 (ld11_3 m c)))
      = outV m c := by
  funext i
  have h0 : (i 0).val < 2 := (i 0).isLt
  have h1 : (i 1).val < 256 := (i 1).isLt
  have hc : c.val < 4 := c.isLt
  rw [wr5_at ((c.val + 1) % 4) (Nat.mod_lt _ (by decide)) (off6_3 c), wr5_at ((c.val + 2) % 4) (Nat.mod_lt _ (by decide)) (off6_2 c),
    wr5_at ((c.val + 3) % 4) (Nat.mod_lt _ (by decide)) (off6_1 c), wr5_at c.val hc (off5_eq c)]
  unfold outV
  dsimp only
  generalize hs : 2 * (i 0).val + (i 1).val / 128 = s
  have hs4 : s < 4 := by omega
  by_cases e0 : s = c.val
  · rw [if_neg (by omega), if_neg (by omega), if_neg (by omega), if_pos e0, if_pos e0]
  · by_cases e1 : s = (c.val + 3) % 4
    · rw [if_neg (by omega), if_neg (by omega), if_pos (by omega), if_neg e0, if_pos e1]
    · by_cases e2 : s = (c.val + 2) % 4
      · rw [if_neg (by omega), if_pos (by omega), if_neg e0, if_neg e1, if_pos e2]
      · rw [if_pos (by omega), if_neg e0, if_neg e1, if_neg e2]

/-! ## The offsets of the blocks -/

theorem off1_num (c : Dev nD) : k0_off1 c = ![0, 0, 0, 4 * c.val, 0] := by revert c; decide +kernel
theorem off2_1 (c : Dev nD) : k0_off2 c 1#32 = ![0, 0, 0, 4 * (c + 1).val, 0] := by revert c; decide +kernel
theorem off2_2 (c : Dev nD) : k0_off2 c 2#32 = ![0, 0, 0, 4 * (c + 2).val, 0] := by revert c; decide +kernel
theorem off2_3 (c : Dev nD) : k0_off2 c 3#32 = ![0, 0, 0, 4 * (c + 3).val, 0] := by revert c; decide +kernel
theorem off3_1 (c : Dev nD) : k0_off3 c 1#32 = ![128 * (c + 1).val, 0] := by revert c; decide +kernel
theorem off3_2 (c : Dev nD) : k0_off3 c 2#32 = ![128 * (c + 2).val, 0] := by revert c; decide +kernel
theorem off3_3 (c : Dev nD) : k0_off3 c 3#32 = ![128 * (c + 3).val, 0] := by revert c; decide +kernel
theorem off4_num (c : Dev nD) : k0_off4 c = ![128 * c.val, 0] := by revert c; decide +kernel

end Cert.KernelIdealProof
-- ==== Proof.IdealPartsA.lean ====
/-
# The parts of the body up to the queries

Each part of the body as one rule: what it takes of the device's resources and what it hands back.
-/
module

public import proofs.«01_k».proof.Proof.IdealAccess

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 20 → ℕ)

/-- The first two notices. -/
theorem part1_run (c : Dev nD) {l : List (Dev nD × Fin 20)} {Q : (Σ' (d0 : Dev nD) (v2 : BitVec 32) (v3 : Sems sig S_) (v30 : BitVec 32) (c4_i32_18 : BitVec 32), BitVec 1) → sProp 𝕄} :
    iprop(env m K ∗ owesS c ((c + 1, 0) :: (c + 2, 0) :: l) ∗ tok (c + 1) 0 3 ∗ barPay (c + 1) 3 ∗ tok (c + 2) 0 2 ∗ barPay (c + 2) 2)
      ⊢ iprop(((owesS c l) -∗ Q ⟨c, myW c, SemArray.scalar (sig.barrier 0 rfl), Scalar.addi (myW c) 3#32, 4#32, Scalar.cmpi .eq 4#32 0#32⟩)
        -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Q) := by
  unfold myW
  iintro ⟨#He, HO, Ht1, Hb1, Ht2, Hb2⟩ Hk
  simp only [k0_part1_eq_skeleton]
  unfold k0_part1_skel
  simp only [semSignalWord, semWaitWord, Prog.lift, Prog.bind_op, Prog.bind_ret, Prog.pure_eq_ret, wp_deviceId]
  iapply (step_signal m K c (c + 1) ⟨k0_dev1 c, k0_dev1_lt c⟩ (dev1_eq c) 3 (by decide) _) $$ [HO Ht1 Hb1]
  · isplitl []; · iexact He
    isplitl [HO]; · iexact HO
    isplitl [Ht1]; · iexact Ht1
    iexact Hb1
  iintro HO
  iapply (step_signal m K c (c + 2) ⟨k0_dev2 c, k0_dev2_lt c⟩ (dev2_eq c) 2 (by decide) _) $$ [HO Ht2 Hb2]
  · isplitl []; · iexact He
    isplitl [HO]; · iexact HO
    isplitl [Ht2]; · iexact Ht2
    iexact Hb2
  iintro HO
  rw [wp_ret]
  imodintro
  iapply Hk
  iexact HO

/-- The third notice, the wait for the three others, and the keys and values in the narrow format. -/
theorem part2_run (c : Dev nD) {l : List (Dev nD × Fin 20)} (hl : ∀ x ∈ l, 1 < lvk x.2) (v2 v30 v32 : BitVec 32) (v31 : BitVec 1) {Q : PUnit → sProp 𝕄} :
    iprop(env m K ∗ owesS c ((c + 3, 0) :: l) ∗ tok (c + 3) 0 1 ∗ barPay (c + 3) 1 ∗ crd c 0 ∗ pos c 0 ∗ inP2 m c ∗ inP3 m c ∗ (∃ f, kvsW c f))
      ⊢ iprop(((owesS c l ∗ semVal (cell c 0) 0 ∗ barPay c 1 ∗ barPay c 2 ∗ barPay c 3 ∗ inP2 m c ∗ inP3 m c ∗ kvsW c (kvsV m c)) -∗ Q ⟨⟩)
        -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (SemArray.scalar (sig.barrier 0 rfl)) v30 v32 v31) Q) := by
  iintro ⟨#He, HO, Ht3, Hb3, Hc0, Hp0, Hi2, Hi3, ⟨%f, Hw⟩⟩ Hk
  simp only [k0_part2_eq_skeleton]
  unfold k0_part2_skel
  simp only [semSignalWord, semWaitWord, Prog.lift, Prog.bind_op, Prog.bind_ret, Prog.pure_eq_ret, wp_deviceId]
  iapply (step_signal m K c (c + 3) ⟨k0_dev3 c, k0_dev3_lt c⟩ (dev3_eq c) 1 (by decide) _) $$ [HO Ht3 Hb3]
  · isplitl []; · iexact He
    isplitl [HO]; · iexact HO
    isplitl [Ht3]; · iexact Ht3
    iexact Hb3
  iintro HO
  iapply (step_bar m K c l hl) $$ [Hc0 HO Hp0]
  · isplitl []; · iexact He
    isplitl [Hc0]; · iexact Hc0
    isplitl [HO]; · iexact HO
    iexact Hp0
  iintro ⟨HO, Hv0, HB1, HB2, HB3⟩
  iapply (load_in2 m c) $$ Hi2
  iintro Hi2
  iapply (load_any c (b := Memref.whole cc0_scratch0) (f := f)) $$ Hw
  iintro Hw
  iapply (store_any c (b := Memref.whole cc0_scratch0) (r := r6_0) (f := f)) $$ Hw
  iintro Hw
  iapply (load_in3 m c) $$ Hi3
  iintro Hi3
  iapply (load_any c (b := Memref.whole cc0_scratch0) (f := _)) $$ Hw
  iintro Hw
  iapply (store_kvs m c) $$ Hw
  iintro Hw
  rw [wp_ret]
  imodintro
  iapply Hk
  isplitl [HO]; · iexact HO
  isplitl [Hv0]; · iexact Hv0
  isplitl [HB1]; · iexact HB1
  isplitl [HB2]; · iexact HB2
  isplitl [HB3]; · iexact HB3
  isplitl [Hi2]; · iexact Hi2
  isplitl [Hi3]; · iexact Hi3
  iexact Hw

/-- The own heads copied on the device, and the heads of the next device sent. -/
theorem part3_run (c : Dev nD) {l : List (Dev nD × Fin 20)} (v2 : BitVec 32) {Q : (Σ' (v71 : BitVec 32) (v82 : BitVec 32), BitVec 32) → sProp 𝕄} :
    iprop(env m K ∗ owesS c ((c + 1, 5) :: l) ∗ kvsP c c (kvsV m c) ∗ (∃ f, kvfP c 0 f) ∗ tok c 1 0 ∗ kvsP c (c + 1) (kvsV m c) ∗ (∃ f, kvfP (c + 1) 1 f) ∗ tok c 2 0 ∗ tok (c + 1) 5 0)
      ⊢ iprop(((owesS c l ∗ crd c 1 ∗ crd c 2) -∗ ∀ r : (Σ' (v71 : BitVec 32) (v82 : BitVec 32), BitVec 32), Q r)
        -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  iintro ⟨#He, HO, Hs0, Hd0, Ht0, Hs1, Hd1, HtS1, HtR1⟩ Hk
  simp only [k0_part3_eq_skeleton]
  unfold k0_part3_skel
  simp only [semSignalWord, semWaitWord, Prog.lift, Prog.bind_op, Prog.bind_ret, Prog.pure_eq_ret, wp_deviceId]
  iapply (kv_copy m K c (by decide) (off := k0_off1 c) (off1_num c)) $$ [Hs0 Hd0 Ht0]
  · isplitl []; · iexact He
    isplitl [Hs0]; · iexact Hs0
    isplitl [Hd0]; · iexact Hd0
    iexact Ht0
  iintro Hc1
  iapply (kv_send m K c (c + 1) ⟨k0_dev4 c, k0_dev4_lt c⟩ 1 rfl (dev4_eq c) 2 5 (by decide) (by decide) (by decide) (by decide) (dn := 1) rfl _ rfl rfl rfl rfl (off := k0_off2 c 1#32) (off2_1 c)) $$ [Hs1 Hd1 HO HtS1 HtR1]
  · isplitl []; · iexact He
    isplitl [Hs1]; · iexact Hs1
    isplitl [Hd1]; · iexact Hd1
    isplitl [HO]; · iexact HO
    isplitl [HtS1]; · iexact HtS1
    iexact HtR1
  iintro ⟨HcS1, HO⟩
  rw [wp_ret]
  imodintro
  ihave Hk := Hk $$ [HO Hc1 HcS1]
  · isplitl [HO]; · iexact HO
    isplitl [Hc1]; · iexact Hc1
    iexact HcS1
  iapply Hk

/-- The heads of the device two places on sent. -/
theorem part4_run (c : Dev nD) {l : List (Dev nD × Fin 20)} (v2 v82 c4 : BitVec 32) {Q : (Σ' (v92 : BitVec 32) (v113 : BitVec 32), BitVec 32) → sProp 𝕄} :
    iprop(env m K ∗ owesS c ((c + 2, 6) :: l) ∗ kvsP c (c + 2) (kvsV m c) ∗ (∃ f, kvfP (c + 2) 2 f) ∗ tok c 3 0 ∗ tok (c + 2) 6 0)
      ⊢ iprop(((owesS c l ∗ crd c 3) -∗ ∀ r : (Σ' (v92 : BitVec 32) (v113 : BitVec 32), BitVec 32), Q r)
        -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v82 c4) Q) := by
  iintro ⟨#He, HO, Hs2, Hd2, HtS2, HtR2⟩ Hk
  simp only [k0_part4_eq_skeleton]
  unfold k0_part4_skel
  simp only [semSignalWord, semWaitWord, Prog.lift, Prog.bind_op, Prog.bind_ret, Prog.pure_eq_ret, wp_deviceId]
  iapply (kv_send m K c (c + 2) ⟨k0_dev5 c, k0_dev5_lt c⟩ 2 rfl (dev5_eq c) 3 6 (by decide) (by decide) (by decide) (by decide) (dn := 2) rfl _ rfl rfl rfl rfl (off := k0_off2 c 2#32) (off2_2 c)) $$ [Hs2 Hd2 HO HtS2 HtR2]
  · isplitl []; · iexact He
    isplitl [Hs2]; · iexact Hs2
    isplitl [Hd2]; · iexact Hd2
    isplitl [HO]; · iexact HO
    isplitl [HtS2]; · iexact HtS2
    iexact HtR2
  iintro ⟨HcS2, HO⟩
  rw [wp_ret]
  imodintro
  ihave Hk := Hk $$ [HO HcS2]
  · isplitl [HO]; · iexact HO
    iexact HcS2
  iapply Hk

/-- The heads of the device three places on sent; the queries. -/
theorem part5_run (c : Dev nD) {l : List (Dev nD × Fin 20)} (v113 c4 : BitVec 32) {Q : (Σ' (v135 : FVec F S8x256x64 .bf16) (v136 : IVec S256x256 32) (v137 : IVec S256x256 32) (v138 : FVec F S8x256x64 .f32), FVec F S8x256 .f32) → sProp 𝕄} :
    iprop(env m K ∗ owesS c ((c + 3, 7) :: l) ∗ kvsP c (c + 3) (kvsV m c) ∗ (∃ f, kvfP (c + 3) 3 f) ∗ tok c 4 0 ∗ tok (c + 3) 7 0 ∗ inP0 m c ∗ inP1 m c)
      ⊢ iprop(((owesS c l ∗ crd c 4 ∗ inP0 m c ∗ inP1 m c) -∗ Q ⟨qb m c, rowN, colN, k0_pay4 (F := F), k0_pay5 (F := F)⟩)
        -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v113 c4) Q) := by
  unfold qb
  iintro ⟨#He, HO, Hs3, Hd3, HtS3, HtR3, Hi0, Hi1⟩ Hk
  simp only [k0_part5_eq_skeleton]
  unfold k0_part5_skel
  simp only [semSignalWord, semWaitWord, Prog.lift, Prog.bind_op, Prog.bind_ret, Prog.pure_eq_ret, wp_deviceId]
  iapply (kv_send m K c (c + 3) ⟨k0_dev6 c, k0_dev6_lt c⟩ 3 rfl (dev6_eq c) 4 7 (by decide) (by decide) (by decide) (by decide) (dn := 3) rfl _ rfl rfl rfl rfl (off := k0_off2 c 3#32) (off2_3 c)) $$ [Hs3 Hd3 HO HtS3 HtR3]
  · isplitl []; · iexact He
    isplitl [Hs3]; · iexact Hs3
    isplitl [Hd3]; · iexact Hd3
    isplitl [HO]; · iexact HO
    isplitl [HtS3]; · iexact HtS3
    iexact HtR3
  iintro ⟨HcS3, HO⟩
  iapply (load_in0 m c) $$ Hi0
  iintro Hi0
  iapply (load_in1 m c) $$ Hi1
  iintro Hi1
  rw [wp_ret]
  imodintro
  iapply Hk
  isplitl [HO]; · iexact HO
  isplitl [HcS3]; · iexact HcS3
  isplitl [Hi0]; · iexact Hi0
  iexact Hi1

end Cert.KernelIdealProof
-- ==== Proof.IdealPartsB.lean ====
/-
# The parts of the body of the attention

Each part of the body as one rule: what it takes of the device's resources and what it hands back.
-/
module

public import proofs.«01_k».proof.Proof.IdealAccess

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 20 → ℕ)

/-- The own key block's scores. -/
theorem part6_run (c : Dev nD) {l : List (Dev nD × Fin 20)} (hl : ∀ x ∈ l, 0 < lvk x.2) {Q : (Σ' (v165 : FVec F S8x256x64 .bf16) (v168 : FVec F S8x256x256 .f32) (v178 : IVec S256x256 1), IVec S256x256 32) → sProp 𝕄} :
    iprop(env m K ∗ owesS c l ∗ crd c 1 ∗ pos c 1)
      ⊢ iprop(((owesS c l ∗ semVal (cell c 1) 0 ∗ kvfP c 0 (kvfV m c) ∗ kvsP c c (kvsV m c)) -∗ Q ⟨k0_pay7 (ld7_0 m c), k0_pay8 (qb m c) (ld7_0 m c), k0_pay9 (myW c) rowN colN, k0_pay10⟩)
        -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c (myW c) (qb m c) rowN colN) Q) := by
  unfold ld7_0
  iintro ⟨#He, HO, Hc1, Hp1⟩ Hk
  simp only [k0_part6_eq_skeleton]
  unfold k0_part6_skel
  simp only [semSignalWord, semWaitWord, Prog.lift, Prog.bind_op, Prog.bind_ret, Prog.pure_eq_ret, wp_deviceId]
  iapply (step_dma m K c 1 (by decide) (by decide) rfl _ (P := iprop((kvfP c 0 (kvfV m c) ∗ kvsP c c (kvsV m c)))) hl rfl) $$ [Hc1 HO Hp1]
  · isplitl []; · iexact He
    isplitl [Hc1]; · iexact Hc1
    isplitl [HO]; · iexact HO
    iexact Hp1
  iintro ⟨HO, Hv1, ⟨HP1a, HP1b⟩⟩
  iapply (load_kvf c 0 (dn := 0) rfl _ _) $$ HP1a
  iintro HP1a
  rw [wp_ret]
  imodintro
  iapply Hk
  isplitl [HO]; · iexact HO
  isplitl [Hv1]; · iexact Hv1
  isplitl [HP1a]; · iexact HP1a
  iexact HP1b

/-- The first running sums, and the arrival of the key block of one place back. -/
theorem part7_run (c : Dev nD) {l : List (Dev nD × Fin 20)} (hl : ∀ x ∈ l, 2 < lvk x.2) (v71 : BitVec 32) {Q : (Σ' (v189 : FVec F S8x256 .f32) (v192 : FVec F S8x256x64 .f32), BitVec 32) → sProp 𝕄} :
    iprop(env m K ∗ owesS c l ∗ crd c 5 ∗ pos c 5)
      ⊢ iprop(((owesS c l ∗ semVal (cell c 5) 0 ∗ kvfP c 1 (kvfV m c)) -∗ Q ⟨sum1 m c, acc1 m c, backW c 1#32⟩)
        -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c (myW c) v71 rowN k0_pay4 k0_pay5 (k0_pay7 (ld7_0 m c)) (k0_pay8 (qb m c) (ld7_0 m c)) (k0_pay9 (myW c) rowN colN) k0_pay10) Q) := by
  unfold sum1 acc1 backW
  iintro ⟨#He, HO, Hc5, Hp5⟩ Hk
  simp only [k0_part7_eq_skeleton]
  unfold k0_part7_skel
  simp only [semSignalWord, semWaitWord, Prog.lift, Prog.bind_op, Prog.bind_ret, Prog.pure_eq_ret, wp_deviceId]
  iapply (step_dma m K c 5 (by decide) (by decide) rfl _ (P := iprop(kvfP c 1 (kvfV m c))) hl rfl) $$ [Hc5 HO Hp5]
  · isplitl []; · iexact He
    isplitl [Hc5]; · iexact Hc5
    isplitl [HO]; · iexact HO
    iexact Hp5
  iintro ⟨HO, Hv5, HP5⟩
  rw [wp_ret]
  imodintro
  iapply Hk
  isplitl [HO]; · iexact HO
  isplitl [Hv5]; · iexact Hv5
  iexact HP5

/-- The running sums after the second key block. -/
theorem part8_run (c : Dev nD) (v92 : BitVec 32) {Q : (Σ' (v244 : FVec F S8x256 .f32), FVec F S8x256x64 .f32) → sProp 𝕄} :
    iprop(env m K ∗ kvfP c 1 (kvfV m c))
      ⊢ iprop(((kvfP c 1 (kvfV m c)) -∗ Q ⟨sum2 m c, acc2 m c⟩)
        -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v92 (qb m c) rowN colN (sum1 m c) (acc1 m c) (backW c 1#32)) Q) := by
  unfold sum2 acc2 ld7_1
  iintro ⟨#He, HP5⟩ Hk
  simp only [k0_part8_eq_skeleton]
  unfold k0_part8_skel
  simp only [semSignalWord, semWaitWord, Prog.lift, Prog.bind_op, Prog.bind_ret, Prog.pure_eq_ret, wp_deviceId]
  iapply (load_kvf c 1 (dn := 1) rfl _ _) $$ HP5
  iintro HP5
  rw [wp_ret]
  imodintro
  iapply Hk
  iexact HP5

/-- The arrival of the key block of two places back; its scores. -/
theorem part9_run (c : Dev nD) {l : List (Dev nD × Fin 20)} (hl : ∀ x ∈ l, 2 < lvk x.2) {Q : (Σ' (v275 : FVec F S8x256x64 .bf16) (v278 : FVec F S8x256x256 .f32) (v281 : IVec S256x256 32) (v285 : IVec S256x256 1), IVec S256x256 32) → sProp 𝕄} :
    iprop(env m K ∗ owesS c l ∗ crd c 6 ∗ pos c 6)
      ⊢ iprop(((owesS c l ∗ semVal (cell c 6) 0 ∗ kvfP c 2 (kvfV m c)) -∗ Q ⟨k0_pay19 (ld7_2 m c), k0_pay20 (qb m c) (ld7_2 m c), k0_pay21 (myW c) colN, k0_pay22 (myW c) rowN colN, k0_pay23⟩)
        -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c (myW c) (qb m c) rowN colN) Q) := by
  unfold ld7_2
  iintro ⟨#He, HO, Hc6, Hp6⟩ Hk
  simp only [k0_part9_eq_skeleton]
  unfold k0_part9_skel
  simp only [semSignalWord, semWaitWord, Prog.lift, Prog.bind_op, Prog.bind_ret, Prog.pure_eq_ret, wp_deviceId]
  iapply (step_dma m K c 6 (by decide) (by decide) rfl _ (P := iprop(kvfP c 2 (kvfV m c))) hl rfl) $$ [Hc6 HO Hp6]
  · isplitl []; · iexact He
    isplitl [Hc6]; · iexact Hc6
    isplitl [HO]; · iexact HO
    iexact Hp6
  iintro ⟨HO, Hv6, HP6⟩
  iapply (load_kvf c 2 (dn := 2) rfl _ _) $$ HP6
  iintro HP6
  rw [wp_ret]
  imodintro
  iapply Hk
  isplitl [HO]; · iexact HO
  isplitl [Hv6]; · iexact Hv6
  iexact HP6

/-- The running sums after the third key block; the arrival of the last one. -/
theorem part10_run (c : Dev nD) {l : List (Dev nD × Fin 20)} (hl : ∀ x ∈ l, 2 < lvk x.2) (v113 : BitVec 32) {Q : (Σ' (v299 : FVec F S8x256 .f32) (v302 : FVec F S8x256x64 .f32), BitVec 32) → sProp 𝕄} :
    iprop(env m K ∗ owesS c l ∗ crd c 7 ∗ pos c 7)
      ⊢ iprop(((owesS c l ∗ semVal (cell c 7) 0 ∗ kvfP c 3 (kvfV m c)) -∗ Q ⟨sum3 m c, acc3 m c, backW c 3#32⟩)
        -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c (myW c) v113 rowN (sum2 m c) (acc2 m c) (k0_pay19 (ld7_2 m c)) (k0_pay20 (qb m c) (ld7_2 m c)) (k0_pay21 (myW c) colN) (k0_pay22 (myW c) rowN colN) k0_pay23) Q) := by
  unfold sum3 acc3 backW
  iintro ⟨#He, HO, Hc7, Hp7⟩ Hk
  simp only [k0_part10_eq_skeleton]
  unfold k0_part10_skel
  simp only [semSignalWord, semWaitWord, Prog.lift, Prog.bind_op, Prog.bind_ret, Prog.pure_eq_ret, wp_deviceId]
  iapply (step_dma m K c 7 (by decide) (by decide) rfl _ (P := iprop(kvfP c 3 (kvfV m c))) hl rfl) $$ [Hc7 HO Hp7]
  · isplitl []; · iexact He
    isplitl [Hc7]; · iexact Hc7
    isplitl [HO]; · iexact HO
    iexact Hp7
  iintro ⟨HO, Hv7, HP7⟩
  rw [wp_ret]
  imodintro
  iapply Hk
  isplitl [HO]; · iexact HO
  isplitl [Hv7]; · iexact Hv7
  iexact HP7

/-- The attention output. -/
theorem part11_run (c : Dev nD) {Q : (FVec F S512x256 .bf16) → sProp 𝕄} :
    iprop(env m K ∗ kvfP c 3 (kvfV m c))
      ⊢ iprop(((kvfP c 3 (kvfV m c)) -∗ Q (ctx m c))
        -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 (qb m c) rowN colN (sum3 m c) (acc3 m c) (backW c 3#32)) Q) := by
  unfold ctx ld7_3
  iintro ⟨#He, HP7⟩ Hk
  simp only [k0_part11_eq_skeleton]
  unfold k0_part11_skel
  simp only [semSignalWord, semWaitWord, Prog.lift, Prog.bind_op, Prog.bind_ret, Prog.pure_eq_ret, wp_deviceId]
  iapply (load_kvf c 3 (dn := 3) rfl _ _) $$ HP7
  iintro HP7
  rw [wp_ret]
  imodintro
  iapply Hk
  iexact HP7

end Cert.KernelIdealProof
-- ==== Proof.IdealPartsC.lean ====
/-
# The parts of the body of the partial product and its reduction

Each part of the body as one rule: what it takes of the device's resources and what it hands back.
-/
module

public import proofs.«01_k».proof.Proof.IdealAccess

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 20 → ℕ)

/-- The partial product; the next device's rows sent. -/
theorem part12_run (c : Dev nD) {l : List (Dev nD × Fin 20)} (v2 : BitVec 32) {Q : (Σ' (v396 : BitVec 32) (v397 : BitVec 32), BitVec 32) → sProp 𝕄} :
    iprop(env m K ∗ owesS c ((c + 1, 11) :: l) ∗ inP4 m c ∗ (∃ f, pbW c f) ∗ (∃ f, rsP (c + 1) 1 f) ∗ tok c 8 0 ∗ tok (c + 1) 11 0)
      ⊢ iprop(((owesS c l ∗ inP4 m c ∗ pbP c c (pbV m c) ∗ pbP c (c + 2) (pbV m c) ∗ pbP c (c + 3) (pbV m c) ∗ crd c 8) -∗ ∀ r : (Σ' (v396 : BitVec 32) (v397 : BitVec 32), BitVec 32), Q r)
        -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (ctx m c)) Q) := by
  iintro ⟨#He, HO, Hi4, ⟨%f, Hw⟩, Hd1, HtS1, HtR1⟩ Hk
  simp only [k0_part12_eq_skeleton]
  unfold k0_part12_skel
  simp only [semSignalWord, semWaitWord, Prog.lift, Prog.bind_op, Prog.bind_ret, Prog.pure_eq_ret, wp_deviceId]
  iapply (load_in4 m c) $$ Hi4
  iintro Hi4
  iapply (load_any c (b := Memref.whole cc0_scratch2) (f := f)) $$ Hw
  iintro Hw
  iapply (store_pb c _ (V := pbV m c) rfl) $$ Hw
  iintro Hw
  ihave Hw := (BIBase.Entails.of_eq (pb_split c (pbV m c))) $$ Hw
  icases Hw with ⟨Hs0, Hs1, Hs2, Hs3⟩
  iapply (rs_send m K c (c + 1) ⟨k0_dev7 c, k0_dev7_lt c⟩ 1 rfl (dev7_eq c) 8 11 (by decide) (by decide) (by decide) (by decide) (dn := 1) rfl _ rfl rfl rfl rfl (off := k0_off3 c 1#32) (off3_1 c)) $$ [Hs1 Hd1 HO HtS1 HtR1]
  · isplitl []; · iexact He
    isplitl [Hs1]; · iexact Hs1
    isplitl [Hd1]; · iexact Hd1
    isplitl [HO]; · iexact HO
    isplitl [HtS1]; · iexact HtS1
    iexact HtR1
  iintro ⟨HcS1, HO⟩
  rw [wp_ret]
  imodintro
  ihave Hk := Hk $$ [HO Hi4 Hs0 Hs2 Hs3 HcS1]
  · isplitl [HO]; · iexact HO
    isplitl [Hi4]; · iexact Hi4
    isplitl [Hs0]; · iexact Hs0
    isplitl [Hs2]; · iexact Hs2
    isplitl [Hs3]; · iexact Hs3
    iexact HcS1
  iapply Hk

/-- The rows of the device two places on sent. -/
theorem part13_run (c : Dev nD) {l : List (Dev nD × Fin 20)} (v2 v396 v397 v0 : BitVec 32) {Q : PUnit → sProp 𝕄} :
    iprop(env m K ∗ owesS c ((c + 2, 12) :: l) ∗ pbP c (c + 2) (pbV m c) ∗ (∃ f, rsP (c + 2) 2 f) ∗ tok c 9 0 ∗ tok (c + 2) 12 0)
      ⊢ iprop(((owesS c l ∗ crd c 9) -∗ Q ⟨⟩)
        -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v396 v397 v0) Q) := by
  iintro ⟨#He, HO, Hs2, Hd2, HtS2, HtR2⟩ Hk
  simp only [k0_part13_eq_skeleton]
  unfold k0_part13_skel
  simp only [semSignalWord, semWaitWord, Prog.lift, Prog.bind_op, Prog.bind_ret, Prog.pure_eq_ret, wp_deviceId]
  iapply (rs_send m K c (c + 2) ⟨k0_dev8 c, k0_dev8_lt c⟩ 2 rfl (dev8_eq c) 9 12 (by decide) (by decide) (by decide) (by decide) (dn := 2) rfl _ rfl rfl rfl rfl (off := k0_off3 c 2#32) (off3_2 c)) $$ [Hs2 Hd2 HO HtS2 HtR2]
  · isplitl []; · iexact He
    isplitl [Hs2]; · iexact Hs2
    isplitl [Hd2]; · iexact Hd2
    isplitl [HO]; · iexact HO
    isplitl [HtS2]; · iexact HtS2
    iexact HtR2
  iintro ⟨HcS2, HO⟩
  rw [wp_ret]
  imodintro
  iapply Hk
  isplitl [HO]; · iexact HO
  iexact HcS2

/-- The rows of the device three places on sent; the arrival of the rows of one place back. -/
theorem part14_run (c : Dev nD) {l : List (Dev nD × Fin 20)} (hl : ∀ x ∈ l, 3 < lvk x.2) (v2 : BitVec 32) {Q : (Σ' (v457 : BitVec 32) (v458 : BitVec 32), BitVec 1) → sProp 𝕄} :
    iprop(env m K ∗ owesS c ((c + 3, 13) :: l) ∗ pbP c (c + 3) (pbV m c) ∗ (∃ f, rsP (c + 3) 3 f) ∗ tok c 10 0 ∗ tok (c + 3) 13 0 ∗ crd c 11 ∗ pos c 11)
      ⊢ iprop(((owesS c l ∗ crd c 10 ∗ semVal (cell c 11) 0 ∗ rsP c 1 (rsV m c)) -∗ ∀ r : (Σ' (v457 : BitVec 32) (v458 : BitVec 32), BitVec 1), Q r)
        -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  iintro ⟨#He, HO, Hs3, Hd3, HtS3, HtR3, Hc11, Hp11⟩ Hk
  simp only [k0_part14_eq_skeleton]
  unfold k0_part14_skel
  simp only [semSignalWord, semWaitWord, Prog.lift, Prog.bind_op, Prog.bind_ret, Prog.pure_eq_ret, wp_deviceId]
  iapply (rs_send m K c (c + 3) ⟨k0_dev9 c, k0_dev9_lt c⟩ 3 rfl (dev9_eq c) 10 13 (by decide) (by decide) (by decide) (by decide) (dn := 3) rfl _ rfl rfl rfl rfl (off := k0_off3 c 3#32) (off3_3 c)) $$ [Hs3 Hd3 HO HtS3 HtR3]
  · isplitl []; · iexact He
    isplitl [Hs3]; · iexact Hs3
    isplitl [Hd3]; · iexact Hd3
    isplitl [HO]; · iexact HO
    isplitl [HtS3]; · iexact HtS3
    iexact HtR3
  iintro ⟨HcS3, HO⟩
  iapply (step_dma m K c 11 (by decide) (by decide) rfl _ (P := iprop(rsP c 1 (rsV m c))) hl rfl) $$ [Hc11 HO Hp11]
  · isplitl []; · iexact He
    isplitl [Hc11]; · iexact Hc11
    isplitl [HO]; · iexact HO
    iexact Hp11
  iintro ⟨HO, Hv11, HP11⟩
  rw [wp_ret]
  imodintro
  ihave Hk := Hk $$ [HO HcS3 Hv11 HP11]
  · isplitl [HO]; · iexact HO
    isplitl [HcS3]; · iexact HcS3
    isplitl [Hv11]; · iexact Hv11
    iexact HP11
  iapply Hk

/-- The arrival of the other two row blocks. -/
theorem part15_run (c : Dev nD) {l : List (Dev nD × Fin 20)} (hl : ∀ x ∈ l, 3 < lvk x.2) (v2 v457 v458 : BitVec 32) (v463 : BitVec 1) {Q : (BitVec 32) → sProp 𝕄} :
    iprop(env m K ∗ owesS c l ∗ crd c 12 ∗ pos c 12 ∗ crd c 13 ∗ pos c 13)
      ⊢ iprop(((owesS c l ∗ semVal (cell c 12) 0 ∗ rsP c 2 (rsV m c) ∗ semVal (cell c 13) 0 ∗ rsP c 3 (rsV m c)) -∗ ∀ r : (BitVec 32), Q r)
        -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 v457 v458 v463) Q) := by
  iintro ⟨#He, HO, Hc12, Hp12, Hc13, Hp13⟩ Hk
  simp only [k0_part15_eq_skeleton]
  unfold k0_part15_skel
  simp only [semSignalWord, semWaitWord, Prog.lift, Prog.bind_op, Prog.bind_ret, Prog.pure_eq_ret, wp_deviceId]
  iapply (step_dma m K c 12 (by decide) (by decide) rfl _ (P := iprop(rsP c 2 (rsV m c))) hl rfl) $$ [Hc12 HO Hp12]
  · isplitl []; · iexact He
    isplitl [Hc12]; · iexact Hc12
    isplitl [HO]; · iexact HO
    iexact Hp12
  iintro ⟨HO, Hv12, HP12⟩
  iapply (step_dma m K c 13 (by decide) (by decide) rfl _ (P := iprop(rsP c 3 (rsV m c))) hl rfl) $$ [Hc13 HO Hp13]
  · isplitl []; · iexact He
    isplitl [Hc13]; · iexact Hc13
    isplitl [HO]; · iexact HO
    iexact Hp13
  iintro ⟨HO, Hv13, HP13⟩
  rw [wp_ret]
  imodintro
  ihave Hk := Hk $$ [HO Hv12 HP12 Hv13 HP13]
  · isplitl [HO]; · iexact HO
    isplitl [Hv12]; · iexact Hv12
    isplitl [HP12]; · iexact HP12
    isplitl [Hv13]; · iexact Hv13
    iexact HP13
  iapply Hk

/-- The reduced rows. -/
theorem part16_run (c : Dev nD) (v2 v493 : BitVec 32) {Q : (FVec F S128x512 .f32) → sProp 𝕄} :
    iprop(env m K ∗ pbP c c (pbV m c) ∗ rsP c 1 (rsV m c) ∗ rsP c 2 (rsV m c) ∗ rsP c 3 (rsV m c) ∗ (∃ f, redW c f))
      ⊢ iprop(((pbP c c (pbV m c) ∗ rsP c 1 (rsV m c) ∗ rsP c 2 (rsV m c) ∗ rsP c 3 (rsV m c) ∗ redW c (redV m c)) -∗ Q (redF m c))
        -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v493) Q) := by
  unfold redF ld8 ld9_1 ld9_2 ld9_3
  iintro ⟨#He, Hs0, HP11, HP12, HP13, ⟨%f, Hw⟩⟩ Hk
  simp only [k0_part16_eq_skeleton]
  unfold k0_part16_skel
  simp only [semSignalWord, semWaitWord, Prog.lift, Prog.bind_op, Prog.bind_ret, Prog.pure_eq_ret, wp_deviceId]
  iapply (load_pb c c (off := k0_off4 c) (off4_num c) _ _) $$ Hs0
  iintro Hs0
  iapply (load_rs c 1 (dn := 1) rfl _ _) $$ HP11
  iintro HP11
  iapply (load_rs c 2 (dn := 2) rfl _ _) $$ HP12
  iintro HP12
  iapply (load_rs c 3 (dn := 3) rfl _ _) $$ HP13
  iintro HP13
  iapply (load_any c (b := Memref.whole cc0_scratch4) (f := f)) $$ Hw
  iintro Hw
  iapply (store_red c _ (V := redV m c) rfl) $$ Hw
  iintro Hw
  rw [wp_ret]
  imodintro
  iapply Hk
  isplitl [Hs0]; · iexact Hs0
  isplitl [HP11]; · iexact HP11
  isplitl [HP12]; · iexact HP12
  isplitl [HP13]; · iexact HP13
  iexact Hw

end Cert.KernelIdealProof
-- ==== Proof.IdealPartsD.lean ====
/-
# The parts of the body of the result

Each part of the body as one rule: what it takes of the device's resources and what it hands back.
-/
module

public import proofs.«01_k».proof.Proof.IdealAccess

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 20 → ℕ)

/-- The reduced rows sent one and two places on. -/
theorem part17_run (c : Dev nD) {l : List (Dev nD × Fin 20)} (v2 : BitVec 32) {Q : (BitVec 32) → sProp 𝕄} :
    iprop(env m K ∗ owesS c ((c + 1, 17) :: (c + 2, 18) :: l) ∗ redP c (redQ 0) (redV m c) ∗ (∃ f, agP (c + 1) 1 f) ∗ tok c 14 0 ∗ tok (c + 1) 17 0 ∗ redP c (redQ 1) (redV m c) ∗ (∃ f, agP (c + 2) 2 f) ∗ tok c 15 0 ∗ tok (c + 2) 18 0)
      ⊢ iprop(((owesS c l ∗ crd c 14 ∗ crd c 15) -∗ ∀ r : (BitVec 32), Q r)
        -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  iintro ⟨#He, HO, Hs1, Hd1, HtS1, HtR1, Hs2, Hd2, HtS2, HtR2⟩ Hk
  simp only [k0_part17_eq_skeleton]
  unfold k0_part17_skel
  simp only [semSignalWord, semWaitWord, Prog.lift, Prog.bind_op, Prog.bind_ret, Prog.pure_eq_ret, wp_deviceId]
  iapply (ag_send m K c (c + 1) ⟨k0_dev10 c, k0_dev10_lt c⟩ 1 rfl (dev10_eq c) 14 17 (by decide) (by decide) (by decide) (by decide) (dn := 1) rfl _ rfl rfl (redQ 0) rfl rfl) $$ [Hs1 Hd1 HO HtS1 HtR1]
  · isplitl []; · iexact He
    isplitl [Hs1]; · iexact Hs1
    isplitl [Hd1]; · iexact Hd1
    isplitl [HO]; · iexact HO
    isplitl [HtS1]; · iexact HtS1
    iexact HtR1
  iintro ⟨HcS1, HO⟩
  iapply (ag_send m K c (c + 2) ⟨k0_dev11 c, k0_dev11_lt c⟩ 2 rfl (dev11_eq c) 15 18 (by decide) (by decide) (by decide) (by decide) (dn := 2) rfl _ rfl rfl (redQ 1) rfl rfl) $$ [Hs2 Hd2 HO HtS2 HtR2]
  · isplitl []; · iexact He
    isplitl [Hs2]; · iexact Hs2
    isplitl [Hd2]; · iexact Hd2
    isplitl [HO]; · iexact HO
    isplitl [HtS2]; · iexact HtS2
    iexact HtR2
  iintro ⟨HcS2, HO⟩
  rw [wp_ret]
  imodintro
  ihave Hk := Hk $$ [HO HcS1 HcS2]
  · isplitl [HO]; · iexact HO
    isplitl [HcS1]; · iexact HcS1
    iexact HcS2
  iapply Hk

/-- The reduced rows sent three places on. -/
theorem part18_run (c : Dev nD) {l : List (Dev nD × Fin 20)} (v2 v561 : BitVec 32) {fo : Vec F S2x256x512 .f32} {Q : (Vec F S1x128x512 .f32) → sProp 𝕄} :
    iprop(env m K ∗ owesS c ((c + 3, 19) :: l) ∗ redP c (redQ 2) (redV m c) ∗ (∃ f, agP (c + 3) 3 f) ∗ tok c 16 0 ∗ tok (c + 3) 19 0 ∗ outP c fo)
      ⊢ iprop(((owesS c l ∗ crd c 16 ∗ outP c fo) -∗ ∀ r : (Vec F S1x128x512 .f32), Q r)
        -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v561) Q) := by
  iintro ⟨#He, HO, Hs3, Hd3, HtS3, HtR3, Hw⟩ Hk
  simp only [k0_part18_eq_skeleton]
  unfold k0_part18_skel
  simp only [semSignalWord, semWaitWord, Prog.lift, Prog.bind_op, Prog.bind_ret, Prog.pure_eq_ret, wp_deviceId]
  iapply (ag_send m K c (c + 3) ⟨k0_dev12 c, k0_dev12_lt c⟩ 3 rfl (dev12_eq c) 16 19 (by decide) (by decide) (by decide) (by decide) (dn := 3) rfl _ rfl rfl (redQ 2) rfl rfl) $$ [Hs3 Hd3 HO HtS3 HtR3]
  · isplitl []; · iexact He
    isplitl [Hs3]; · iexact Hs3
    isplitl [Hd3]; · iexact Hd3
    isplitl [HO]; · iexact HO
    isplitl [HtS3]; · iexact HtS3
    iexact HtR3
  iintro ⟨HcS3, HO⟩
  iapply (load_any c (b := Memref.whole cc0_stg5_0) (f := fo)) $$ Hw
  iintro Hw
  rw [wp_ret]
  imodintro
  ihave Hk := Hk $$ [HO HcS3 Hw]
  · isplitl [HO]; · iexact HO
    isplitl [HcS3]; · iexact HcS3
    iexact Hw
  iapply Hk

/-- The own rows stored; the arrival of the rows of one place back. -/
theorem part19_run (c : Dev nD) {l : List (Dev nD × Fin 20)} (hl : ∀ x ∈ l, 4 < lvk x.2) (v2 : BitVec 32) (v600 : Vec F S1x128x512 .f32) {fo : Vec F S2x256x512 .f32} {Q : (BitVec 32) → sProp 𝕄} :
    iprop(env m K ∗ owesS c l ∗ crd c 17 ∗ pos c 17 ∗ outP c fo)
      ⊢ iprop(((owesS c l ∗ semVal (cell c 17) 0 ∗ agP c 1 (agV m c) ∗ outP c (wr5 (k0_off5 c) (k0_off5_inb c) fo (k0_pay31 (redF m c)))) -∗ ∀ r : (BitVec 32), Q r)
        -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (redF m c) v600) Q) := by
  iintro ⟨#He, HO, Hc17, Hp17, Hw⟩ Hk
  simp only [k0_part19_eq_skeleton]
  unfold k0_part19_skel
  simp only [semSignalWord, semWaitWord, Prog.lift, Prog.bind_op, Prog.bind_ret, Prog.pure_eq_ret, wp_deviceId]
  iapply (store_any c (b := Memref.whole cc0_stg5_0) (r := Rect.unit (s := S2x256x512) (k0_off5 c) S1x128x512.size (k0_off5_inb c)) (f := fo)) $$ Hw
  iintro Hw
  iapply (step_dma m K c 17 (by decide) (by decide) rfl _ (P := iprop(agP c 1 (agV m c))) hl rfl) $$ [Hc17 HO Hp17]
  · isplitl []; · iexact He
    isplitl [Hc17]; · iexact Hc17
    isplitl [HO]; · iexact HO
    iexact Hp17
  iintro ⟨HO, Hv17, HP17⟩
  rw [wp_ret]
  imodintro
  ihave Hk := Hk $$ [HO Hv17 HP17 Hw]
  · isplitl [HO]; · iexact HO
    isplitl [Hv17]; · iexact Hv17
    isplitl [HP17]; · iexact HP17
    iexact Hw
  iapply Hk

/-- The rows of one place back stored. -/
theorem part20_run (c : Dev nD) (v2 v632 : BitVec 32) {fo : Vec F S2x256x512 .f32} {Q : (Σ' (v669 : BitVec 32), BitVec 32) → sProp 𝕄} :
    iprop(env m K ∗ agP c 1 (agV m c) ∗ outP c fo)
      ⊢ iprop(((agP c 1 (agV m c) ∗ outP c (wr5 (k0_off6 c 1#32) (k0_off6_inb c 0) fo (k0_pay32 (ld11_1 m c)))) -∗ ∀ r : (Σ' (v669 : BitVec 32), BitVec 32), Q r)
        -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v632) Q) := by
  unfold ld11_1
  iintro ⟨#He, HP17, Hw⟩ Hk
  simp only [k0_part20_eq_skeleton]
  unfold k0_part20_skel
  simp only [semSignalWord, semWaitWord, Prog.lift, Prog.bind_op, Prog.bind_ret, Prog.pure_eq_ret, wp_deviceId]
  iapply (load_ag c 1 (dn := 1) rfl _ _) $$ HP17
  iintro HP17
  iapply (load_any c (b := Memref.whole cc0_stg5_0) (f := fo)) $$ Hw
  iintro Hw
  iapply (store_any c (b := Memref.whole cc0_stg5_0) (r := Rect.unit (s := S2x256x512) (k0_off6 c 1#32) S1x128x512.size (k0_off6_inb c 0)) (f := fo)) $$ Hw
  iintro Hw
  rw [wp_ret]
  imodintro
  ihave Hk := Hk $$ [HP17 Hw]
  · isplitl [HP17]; · iexact HP17
    iexact Hw
  iapply Hk

/-- The arrival of the rows of two places back. -/
theorem part21_run (c : Dev nD) {l : List (Dev nD × Fin 20)} (hl : ∀ x ∈ l, 4 < lvk x.2) (v2 v669 v671 : BitVec 32) {Q : (Σ' (v698 : BitVec 32) (v701 : FVec F S128x512 .f32) (c2_i32_508 : BitVec 32) (v702 : BitVec 32) (v704 : BitVec 32), BitVec 32) → sProp 𝕄} :
    iprop(env m K ∗ owesS c l ∗ crd c 18 ∗ pos c 18)
      ⊢ iprop(((owesS c l ∗ semVal (cell c 18) 0 ∗ agP c 2 (agV m c)) -∗ ∀ r1 : BitVec 32, ∀ r2 : BitVec 32, ∀ r3 : BitVec 32, ∀ r4 : BitVec 32, ∀ r5 : BitVec 32, Q ⟨r1, k0_pay33 (ld11_2 m c), r2, r3, r4, r5⟩)
        -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 v669 v671) Q) := by
  unfold ld11_2
  iintro ⟨#He, HO, Hc18, Hp18⟩ Hk
  simp only [k0_part21_eq_skeleton]
  unfold k0_part21_skel
  simp only [semSignalWord, semWaitWord, Prog.lift, Prog.bind_op, Prog.bind_ret, Prog.pure_eq_ret, wp_deviceId]
  iapply (step_dma m K c 18 (by decide) (by decide) rfl _ (P := iprop(agP c 2 (agV m c))) hl rfl) $$ [Hc18 HO Hp18]
  · isplitl []; · iexact He
    isplitl [Hc18]; · iexact Hc18
    isplitl [HO]; · iexact HO
    iexact Hp18
  iintro ⟨HO, Hv18, HP18⟩
  iapply (load_ag c 2 (dn := 2) rfl _ _) $$ HP18
  iintro HP18
  rw [wp_ret]
  imodintro
  ihave Hk := Hk $$ [HO Hv18 HP18]
  · isplitl [HO]; · iexact HO
    isplitl [Hv18]; · iexact Hv18
    iexact HP18
  iapply Hk

/-- The rows of two places back stored. -/
theorem part22_run (c : Dev nD) (v2 v698 v5 v702 v704 v0 : BitVec 32) {fo : Vec F S2x256x512 .f32} {Q : (Σ' (v738 : BitVec 32) (v743 : BitVec 1), BitVec 32) → sProp 𝕄} :
    iprop(env m K ∗ outP c fo)
      ⊢ iprop(((outP c (wr5 (k0_off6 c 2#32) (k0_off6_inb c 1) fo (k0_pay34 (k0_pay33 (ld11_2 m c))))) -∗ ∀ r : (Σ' (v738 : BitVec 32) (v743 : BitVec 1), BitVec 32), Q r)
        -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v698 (k0_pay33 (ld11_2 m c)) v5 v702 v704 v0) Q) := by
  iintro ⟨#He, Hw⟩ Hk
  simp only [k0_part22_eq_skeleton]
  unfold k0_part22_skel
  simp only [semSignalWord, semWaitWord, Prog.lift, Prog.bind_op, Prog.bind_ret, Prog.pure_eq_ret, wp_deviceId]
  iapply (load_any c (b := Memref.whole cc0_stg5_0) (f := fo)) $$ Hw
  iintro Hw
  iapply (store_any c (b := Memref.whole cc0_stg5_0) (r := Rect.unit (s := S2x256x512) (k0_off6 c 2#32) S1x128x512.size (k0_off6_inb c 1)) (f := fo)) $$ Hw
  iintro Hw
  rw [wp_ret]
  imodintro
  ihave Hk := Hk $$ [Hw]
  · iexact Hw
  iapply Hk

/-- The arrival of the rows of three places back. -/
theorem part23_run (c : Dev nD) {l : List (Dev nD × Fin 20)} (hl : ∀ x ∈ l, 4 < lvk x.2) (v2 v738 : BitVec 32) (v743 : BitVec 1) (v744 : BitVec 32) {Q : (Σ' (v764 : BitVec 32) (v767 : FVec F S128x512 .f32) (c2_i32_550 : BitVec 32) (v768 : BitVec 32) (v773 : BitVec 32), BitVec 32) → sProp 𝕄} :
    iprop(env m K ∗ owesS c l ∗ crd c 19 ∗ pos c 19)
      ⊢ iprop(((owesS c l ∗ semVal (cell c 19) 0 ∗ agP c 3 (agV m c)) -∗ ∀ r1 : BitVec 32, ∀ r2 : BitVec 32, ∀ r3 : BitVec 32, ∀ r4 : BitVec 32, ∀ r5 : BitVec 32, Q ⟨r1, k0_pay35 (ld11_3 m c), r2, r3, r4, r5⟩)
        -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 v738 v743 v744) Q) := by
  unfold ld11_3
  iintro ⟨#He, HO, Hc19, Hp19⟩ Hk
  simp only [k0_part23_eq_skeleton]
  unfold k0_part23_skel
  simp only [semSignalWord, semWaitWord, Prog.lift, Prog.bind_op, Prog.bind_ret, Prog.pure_eq_ret, wp_deviceId]
  iapply (step_dma m K c 19 (by decide) (by decide) rfl _ (P := iprop(agP c 3 (agV m c))) hl rfl) $$ [Hc19 HO Hp19]
  · isplitl []; · iexact He
    isplitl [Hc19]; · iexact Hc19
    isplitl [HO]; · iexact HO
    iexact Hp19
  iintro ⟨HO, Hv19, HP19⟩
  iapply (load_ag c 3 (dn := 3) rfl _ _) $$ HP19
  iintro HP19
  rw [wp_ret]
  imodintro
  ihave Hk := Hk $$ [HO Hv19 HP19]
  · isplitl [HO]; · iexact HO
    isplitl [Hv19]; · iexact Hv19
    iexact HP19
  iapply Hk

/-- The rows of three places back stored; the first block sent is back. -/
theorem part24_run (c : Dev nD) {l : List (Dev nD × Fin 20)} (hl : ∀ x ∈ l, 0 < lvk x.2) (v764 v5 v768 v773 v778 : BitVec 32) {fo : Vec F S2x256x512 .f32} {Q : PUnit → sProp 𝕄} :
    iprop(env m K ∗ owesS c l ∗ crd c 2 ∗ pos c 2 ∗ outP c fo)
      ⊢ iprop(((owesS c l ∗ semVal (cell c 2) 0 ∗ kvsP c (c + 1) (kvsV m c) ∗ outP c (wr5 (k0_off6 c 3#32) (k0_off6_inb c 2) fo (k0_pay36 (k0_pay35 (ld11_3 m c))))) -∗ Q ⟨⟩)
        -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v764 (k0_pay35 (ld11_3 m c)) v5 v768 v773 v778) Q) := by
  iintro ⟨#He, HO, Hc2, Hp2, Hw⟩ Hk
  simp only [k0_part24_eq_skeleton]
  unfold k0_part24_skel
  simp only [semSignalWord, semWaitWord, Prog.lift, Prog.bind_op, Prog.bind_ret, Prog.pure_eq_ret, wp_deviceId]
  iapply (load_any c (b := Memref.whole cc0_stg5_0) (f := fo)) $$ Hw
  iintro Hw
  iapply (store_any c (b := Memref.whole cc0_stg5_0) (r := Rect.unit (s := S2x256x512) (k0_off6 c 3#32) S1x128x512.size (k0_off6_inb c 2)) (f := fo)) $$ Hw
  iintro Hw
  iapply (step_dma m K c 2 (by decide) (by decide) rfl _ (P := iprop(kvsP c (c + 1) (kvsV m c))) hl rfl) $$ [Hc2 HO Hp2]
  · isplitl []; · iexact He
    isplitl [Hc2]; · iexact Hc2
    isplitl [HO]; · iexact HO
    iexact Hp2
  iintro ⟨HO, Hv2, HP2⟩
  rw [wp_ret]
  imodintro
  iapply Hk
  isplitl [HO]; · iexact HO
  isplitl [Hv2]; · iexact Hv2
  isplitl [HP2]; · iexact HP2
  iexact Hw

/-- Four more blocks sent are back. -/
theorem part25_run (c : Dev nD) {l : List (Dev nD × Fin 20)} (hl : ∀ x ∈ l, 0 < lvk x.2) {Q : PUnit → sProp 𝕄} :
    iprop(env m K ∗ owesS c l ∗ crd c 3 ∗ pos c 3 ∗ crd c 4 ∗ pos c 4 ∗ crd c 8 ∗ pos c 8 ∗ crd c 9 ∗ pos c 9)
      ⊢ iprop(((owesS c l ∗ semVal (cell c 3) 0 ∗ kvsP c (c + 2) (kvsV m c) ∗ semVal (cell c 4) 0 ∗ kvsP c (c + 3) (kvsV m c) ∗ semVal (cell c 8) 0 ∗ pbP c (c + 1) (pbV m c) ∗ semVal (cell c 9) 0 ∗ pbP c (c + 2) (pbV m c)) -∗ Q ⟨⟩)
        -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c) Q) := by
  iintro ⟨#He, HO, Hc3, Hp3, Hc4, Hp4, Hc8, Hp8, Hc9, Hp9⟩ Hk
  simp only [k0_part25_eq_skeleton]
  unfold k0_part25_skel
  simp only [semSignalWord, semWaitWord, Prog.lift, Prog.bind_op, Prog.bind_ret, Prog.pure_eq_ret, wp_deviceId]
  iapply (step_dma m K c 3 (by decide) (by decide) rfl _ (P := iprop(kvsP c (c + 2) (kvsV m c))) hl rfl) $$ [Hc3 HO Hp3]
  · isplitl []; · iexact He
    isplitl [Hc3]; · iexact Hc3
    isplitl [HO]; · iexact HO
    iexact Hp3
  iintro ⟨HO, Hv3, HP3⟩
  iapply (step_dma m K c 4 (by decide) (by decide) rfl _ (P := iprop(kvsP c (c + 3) (kvsV m c))) hl rfl) $$ [Hc4 HO Hp4]
  · isplitl []; · iexact He
    isplitl [Hc4]; · iexact Hc4
    isplitl [HO]; · iexact HO
    iexact Hp4
  iintro ⟨HO, Hv4, HP4⟩
  iapply (step_dma m K c 8 (by decide) (by decide) rfl _ (P := iprop(pbP c (c + 1) (pbV m c))) hl rfl) $$ [Hc8 HO Hp8]
  · isplitl []; · iexact He
    isplitl [Hc8]; · iexact Hc8
    isplitl [HO]; · iexact HO
    iexact Hp8
  iintro ⟨HO, Hv8, HP8⟩
  iapply (step_dma m K c 9 (by decide) (by decide) rfl _ (P := iprop(pbP c (c + 2) (pbV m c))) hl rfl) $$ [Hc9 HO Hp9]
  · isplitl []; · iexact He
    isplitl [Hc9]; · iexact Hc9
    isplitl [HO]; · iexact HO
    iexact Hp9
  iintro ⟨HO, Hv9, HP9⟩
  rw [wp_ret]
  imodintro
  iapply Hk
  isplitl [HO]; · iexact HO
  isplitl [Hv3]; · iexact Hv3
  isplitl [HP3]; · iexact HP3
  isplitl [Hv4]; · iexact Hv4
  isplitl [HP4]; · iexact HP4
  isplitl [Hv8]; · iexact Hv8
  isplitl [HP8]; · iexact HP8
  isplitl [Hv9]; · iexact Hv9
  iexact HP9

end Cert.KernelIdealProof
-- ==== Proof.IdealBody.lean ====
/-
# The body on one device

The parts of the body in their order: a device starts with its inputs, its buffers, what it owes and what it may wait
for, and ends with the result stored and everything else back.
-/
module

public import proofs.«01_k».proof.Proof.IdealPartsA
public import proofs.«01_k».proof.Proof.IdealPartsB
public import proofs.«01_k».proof.Proof.IdealPartsC
public import proofs.«01_k».proof.Proof.IdealPartsD

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 20 → ℕ)

/-! ## A device's own landing slots, as the notices to the others -/

theorem bar_mine1 (c : Dev nD) (f : Vec F S4x2x2x256x4x64 .bf16) (g h : Vec F S4x128x512 .bf16) :
    iprop(kvfP c 3 f ∗ rsP c 3 g ∗ agP c 3 h) ⊢ barPay (c + 1) 3 := by
  have hc : c + 1 + 3 = c := by revert c; decide
  unfold barPay
  rw [hc]
  iintro ⟨H1, H2, H3⟩
  isplitl [H1]; · iexists f; iexact H1
  isplitl [H2]; · iexists g; iexact H2
  iexists h; iexact H3

theorem bar_mine2 (c : Dev nD) (f : Vec F S4x2x2x256x4x64 .bf16) (g h : Vec F S4x128x512 .bf16) :
    iprop(kvfP c 2 f ∗ rsP c 2 g ∗ agP c 2 h) ⊢ barPay (c + 2) 2 := by
  have hc : c + 2 + 2 = c := by revert c; decide
  unfold barPay
  rw [hc]
  iintro ⟨H1, H2, H3⟩
  isplitl [H1]; · iexists f; iexact H1
  isplitl [H2]; · iexists g; iexact H2
  iexists h; iexact H3

theorem bar_mine3 (c : Dev nD) (f : Vec F S4x2x2x256x4x64 .bf16) (g h : Vec F S4x128x512 .bf16) :
    iprop(kvfP c 1 f ∗ rsP c 1 g ∗ agP c 1 h) ⊢ barPay (c + 3) 1 := by
  have hc : c + 3 + 1 = c := by revert c; decide
  unfold barPay
  rw [hc]
  iintro ⟨H1, H2, H3⟩
  isplitl [H1]; · iexists f; iexact H1
  isplitl [H2]; · iexists g; iexact H2
  iexists h; iexact H3

/-! ## Each wait is below what is still owed -/

theorem above1 (c : Dev nD) : ∀ x ∈ ([(c + 1, 5), (c + 2, 6), (c + 3, 7), (c + 1, 11), (c + 2, 12), (c + 3, 13), (c + 1, 17), (c + 2, 18), (c + 3, 19)] : List (Dev nD × Fin 20)), 1 < lvk x.2 := by
  revert c; decide
theorem above0 (c : Dev nD) : ∀ x ∈ ([(c + 1, 11), (c + 2, 12), (c + 3, 13), (c + 1, 17), (c + 2, 18), (c + 3, 19)] : List (Dev nD × Fin 20)), 0 < lvk x.2 := by
  revert c; decide
theorem above2 (c : Dev nD) : ∀ x ∈ ([(c + 1, 11), (c + 2, 12), (c + 3, 13), (c + 1, 17), (c + 2, 18), (c + 3, 19)] : List (Dev nD × Fin 20)), 2 < lvk x.2 := by
  revert c; decide
theorem above3 (c : Dev nD) : ∀ x ∈ ([(c + 1, 17), (c + 2, 18), (c + 3, 19)] : List (Dev nD × Fin 20)), 3 < lvk x.2 := by
  revert c; decide
theorem aboveE (c : Dev nD) : ∀ x ∈ ([] : List (Dev nD × Fin 20)), 4 < lvk x.2 := by
  revert c; decide
theorem aboveE0 (c : Dev nD) : ∀ x ∈ ([] : List (Dev nD × Fin 20)), 0 < lvk x.2 := by
  revert c; decide

/-! ## The body -/

/-- What a device starts its body with. -/
def bodyStart (c : Dev nD) : sProp 𝕄 :=
  iprop(owesS c (dues c) ∗ tok (c + 1) 0 3 ∗ tok (c + 2) 0 2 ∗ tok (c + 3) 0 1 ∗ tok (c + 1) 5 0 ∗ tok (c + 2) 6 0 ∗ tok (c + 3) 7 0 ∗ tok (c + 1) 11 0 ∗ tok (c + 2) 12 0 ∗ tok (c + 3) 13 0 ∗ tok (c + 1) 17 0 ∗ tok (c + 2) 18 0 ∗ tok (c + 3) 19 0 ∗ tok c 1 0 ∗ tok c 2 0 ∗ tok c 3 0 ∗ tok c 4 0 ∗ tok c 8 0 ∗ tok c 9 0 ∗ tok c 10 0 ∗ tok c 14 0 ∗ tok c 15 0 ∗ tok c 16 0 ∗ crd c 0 ∗ crd c 5 ∗ crd c 6 ∗ crd c 7 ∗ crd c 11 ∗ crd c 12 ∗ crd c 13 ∗ crd c 17 ∗ crd c 18 ∗ crd c 19 ∗ pos c 0 ∗ pos c 1 ∗ pos c 2 ∗ pos c 3 ∗ pos c 4 ∗ pos c 5 ∗ pos c 6 ∗ pos c 7 ∗ pos c 8 ∗ pos c 9 ∗ pos c 10 ∗ pos c 11 ∗ pos c 12 ∗ pos c 13 ∗ pos c 14 ∗ pos c 15 ∗ pos c 16 ∗ pos c 17 ∗ pos c 18 ∗ pos c 19 ∗ inP0 m c ∗ inP1 m c ∗ inP2 m c ∗ inP3 m c ∗ inP4 m c ∗ (∃ f, outP c f) ∗ (∃ f, kvsW (F := F) c f) ∗ (∃ f, kvfW (F := F) c f) ∗ (∃ f, pbW (F := F) c f) ∗ (∃ f, rsW (F := F) c f) ∗ (∃ f, redW (F := F) c f) ∗ (∃ f, agW (F := F) c f))

/-- What a device ends its body with: the result is in place. -/
def bodyEnd (c : Dev nD) : sProp 𝕄 :=
  iprop(owesS c [] ∗ inP0 m c ∗ inP1 m c ∗ inP2 m c ∗ inP3 m c ∗ inP4 m c ∗ outP c (outV m c) ∗ (∃ f, kvsW (F := F) c f) ∗ (∃ f, kvfW (F := F) c f) ∗ (∃ f, pbW (F := F) c f) ∗ (∃ f, rsW (F := F) c f) ∗ (∃ f, redW (F := F) c f) ∗ (∃ f, agW (F := F) c f) ∗ semVal (cell c 0) 0 ∗ semVal (cell c 1) 0 ∗ semVal (cell c 2) 0 ∗ semVal (cell c 3) 0 ∗ semVal (cell c 4) 0 ∗ semVal (cell c 5) 0 ∗ semVal (cell c 6) 0 ∗ semVal (cell c 7) 0 ∗ semVal (cell c 8) 0 ∗ semVal (cell c 9) 0 ∗ semVal (cell c 10) 0 ∗ semVal (cell c 11) 0 ∗ semVal (cell c 12) 0 ∗ semVal (cell c 13) 0 ∗ semVal (cell c 14) 0 ∗ semVal (cell c 15) 0 ∗ semVal (cell c 16) 0 ∗ semVal (cell c 17) 0 ∗ semVal (cell c 18) 0 ∗ semVal (cell c 19) 0)

set_option maxHeartbeats 4000000 in
/-- The body takes a device from its start to its end. -/
theorem body_run (c : Dev nD) {Q : PUnit → sProp 𝕄} :
    iprop(env m K ∗ bodyStart m c)
      ⊢ iprop((bodyEnd m c -∗ Q ⟨⟩)
        -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Q) := by
  unfold bodyStart bodyEnd
  iintro ⟨#He, HO, Hbt1, Hbt2, Hbt3, TRkv1, TRkv2, TRkv3, TRrs1, TRrs2, TRrs3, TRag1, TRag2, TRag3, Ht0, TSkv1, TSkv2, TSkv3, TSrs1, TSrs2, TSrs3, TSag1, TSag2, TSag3, Hc0, Hc5, Hc6, Hc7, Hc11, Hc12, Hc13, Hc17, Hc18, Hc19, Hp0, Hp1, Hp2, Hp3, Hp4, Hp5, Hp6, Hp7, Hp8, Hp9, Hp10, Hp11, Hp12, Hp13, Hp14, Hp15, Hp16, Hp17, Hp18, Hp19, Hi0, Hi1, Hi2, Hi3, Hi4, ⟨%fo, Hw⟩, ⟨%fkvs, Wkvs⟩, ⟨%fkvf, Wkvf⟩, ⟨%fpb, Wpb⟩, ⟨%frs, Wrs⟩, ⟨%fred, Wred⟩, ⟨%fag, Wag⟩⟩ Hk
  ihave Wkvf := (BIBase.Entails.of_eq (kvf_split c fkvf)) $$ Wkvf
  icases Wkvf with ⟨F0, F1, F2, F3⟩
  ihave Wrs := (BIBase.Entails.of_eq (rs_split c frs)) $$ Wrs
  icases Wrs with ⟨R0, R1, R2, R3⟩
  ihave Wag := (BIBase.Entails.of_eq (ag_split c fag)) $$ Wag
  icases Wag with ⟨A0, A1, A2, A3⟩
  ihave B1 := (bar_mine1 c fkvf frs fag) $$ [F3 R3 A3]
  · isplitl [F3]; · iexact F3
    isplitl [R3]; · iexact R3
    iexact A3
  ihave B2 := (bar_mine2 c fkvf frs fag) $$ [F2 R2 A2]
  · isplitl [F2]; · iexact F2
    isplitl [R2]; · iexact R2
    iexact A2
  ihave B3 := (bar_mine3 c fkvf frs fag) $$ [F1 R1 A1]
  · isplitl [F1]; · iexact F1
    isplitl [R1]; · iexact R1
    iexact A1
  simp only [cc0_body_eq_skeleton]
  unfold cc0_body_skel
  simp only [Prog.lift, Prog.bind_op, Prog.bind_ret, Prog.pure_eq_ret, wp_bind, k0_part26_eq_skeleton]
  unfold k0_part26_skel
  simp only [Prog.lift, Prog.bind_op, Prog.bind_ret, Prog.pure_eq_ret, wp_bind]
  unfold dues
  iapply (part1_run m K c ) $$ [HO Hbt1 B1 Hbt2 B2]
  · isplitl []; · iexact He
    isplitl [HO]; · iexact HO
    isplitl [Hbt1]; · iexact Hbt1
    isplitl [B1]; · iexact B1
    isplitl [Hbt2]; · iexact Hbt2
    iexact B2
  iintro HO
  try dsimp only
  try simp only [wp_bind]
  iapply (part2_run m K c (above1 c) _ _ _ _) $$ [HO Hbt3 B3 Hc0 Hp0 Hi2 Hi3 Wkvs]
  · isplitl []; · iexact He
    isplitl [HO]; · iexact HO
    isplitl [Hbt3]; · iexact Hbt3
    isplitl [B3]; · iexact B3
    isplitl [Hc0]; · iexact Hc0
    isplitl [Hp0]; · iexact Hp0
    isplitl [Hi2]; · iexact Hi2
    isplitl [Hi3]; · iexact Hi3
    iexists fkvs; iexact Wkvs
  iintro ⟨HO, Hv0, P1, P2, P3, Hi2, Hi3, Wkvs⟩
  try dsimp only
  try simp only [wp_bind]
  ihave Wkvs := (BIBase.Entails.of_eq (kvs_split c (kvsV m c))) $$ Wkvs
  icases Wkvs with ⟨S0, S1, S2, S3⟩
  unfold barPay
  icases P1 with ⟨Dkv1, Drs1, Dag1⟩
  icases P2 with ⟨Dkv2, Drs2, Dag2⟩
  icases P3 with ⟨Dkv3, Drs3, Dag3⟩
  iapply (part3_run m K c _) $$ [HO S0 F0 Ht0 S1 Dkv1 TSkv1 TRkv1]
  · isplitl []; · iexact He
    isplitl [HO]; · iexact HO
    isplitl [S0]; · iexact S0
    isplitl [F0]; · iexists fkvf; iexact F0
    isplitl [Ht0]; · iexact Ht0
    isplitl [S1]; · iexact S1
    isplitl [Dkv1]; · iexact Dkv1
    isplitl [TSkv1]; · iexact TSkv1
    iexact TRkv1
  iintro ⟨HO, Hc1, Hc2⟩
  iintro %r
  obtain ⟨v71, v82, v79⟩ := r
  try dsimp only
  try simp only [wp_bind]
  iapply (part4_run m K c _ _ _) $$ [HO S2 Dkv2 TSkv2 TRkv2]
  · isplitl []; · iexact He
    isplitl [HO]; · iexact HO
    isplitl [S2]; · iexact S2
    isplitl [Dkv2]; · iexact Dkv2
    isplitl [TSkv2]; · iexact TSkv2
    iexact TRkv2
  iintro ⟨HO, Hc3⟩
  iintro %r
  obtain ⟨v92, v113, v107⟩ := r
  try dsimp only
  try simp only [wp_bind]
  iapply (part5_run m K c _ _) $$ [HO S3 Dkv3 TSkv3 TRkv3 Hi0 Hi1]
  · isplitl []; · iexact He
    isplitl [HO]; · iexact HO
    isplitl [S3]; · iexact S3
    isplitl [Dkv3]; · iexact Dkv3
    isplitl [TSkv3]; · iexact TSkv3
    isplitl [TRkv3]; · iexact TRkv3
    isplitl [Hi0]; · iexact Hi0
    iexact Hi1
  iintro ⟨HO, Hc4, Hi0, Hi1⟩
  try dsimp only
  try simp only [wp_bind]
  iapply (part6_run m K c (above0 c)) $$ [HO Hc1 Hp1]
  · isplitl []; · iexact He
    isplitl [HO]; · iexact HO
    isplitl [Hc1]; · iexact Hc1
    iexact Hp1
  iintro ⟨HO, Hv1, F0, S0⟩
  try dsimp only
  try simp only [wp_bind]
  iapply (part7_run m K c (above2 c) _) $$ [HO Hc5 Hp5]
  · isplitl []; · iexact He
    isplitl [HO]; · iexact HO
    isplitl [Hc5]; · iexact Hc5
    iexact Hp5
  iintro ⟨HO, Hv5, F1⟩
  try dsimp only
  try simp only [wp_bind]
  iapply (part8_run m K c _) $$ [F1]
  · isplitl []; · iexact He
    iexact F1
  iintro F1
  try dsimp only
  try simp only [wp_bind]
  iapply (part9_run m K c (above2 c)) $$ [HO Hc6 Hp6]
  · isplitl []; · iexact He
    isplitl [HO]; · iexact HO
    isplitl [Hc6]; · iexact Hc6
    iexact Hp6
  iintro ⟨HO, Hv6, F2⟩
  try dsimp only
  try simp only [wp_bind]
  iapply (part10_run m K c (above2 c) _) $$ [HO Hc7 Hp7]
  · isplitl []; · iexact He
    isplitl [HO]; · iexact HO
    isplitl [Hc7]; · iexact Hc7
    iexact Hp7
  iintro ⟨HO, Hv7, F3⟩
  try dsimp only
  try simp only [wp_bind]
  iapply (part11_run m K c ) $$ [F3]
  · isplitl []; · iexact He
    iexact F3
  iintro F3
  try dsimp only
  try simp only [wp_bind]
  iapply (part12_run m K c _) $$ [HO Hi4 Wpb Drs1 TSrs1 TRrs1]
  · isplitl []; · iexact He
    isplitl [HO]; · iexact HO
    isplitl [Hi4]; · iexact Hi4
    isplitl [Wpb]; · iexists fpb; iexact Wpb
    isplitl [Drs1]; · iexact Drs1
    isplitl [TSrs1]; · iexact TSrs1
    iexact TRrs1
  iintro ⟨HO, Hi4, Y0, Y2, Y3, Hc8⟩
  iintro %r
  obtain ⟨v396, v397, v290⟩ := r
  try dsimp only
  try simp only [wp_bind]
  iapply (part13_run m K c _ _ _ _) $$ [HO Y2 Drs2 TSrs2 TRrs2]
  · isplitl []; · iexact He
    isplitl [HO]; · iexact HO
    isplitl [Y2]; · iexact Y2
    isplitl [Drs2]; · iexact Drs2
    isplitl [TSrs2]; · iexact TSrs2
    iexact TRrs2
  iintro ⟨HO, Hc9⟩
  try dsimp only
  try simp only [wp_bind]
  iapply (part14_run m K c (above3 c) _) $$ [HO Y3 Drs3 TSrs3 TRrs3 Hc11 Hp11]
  · isplitl []; · iexact He
    isplitl [HO]; · iexact HO
    isplitl [Y3]; · iexact Y3
    isplitl [Drs3]; · iexact Drs3
    isplitl [TSrs3]; · iexact TSrs3
    isplitl [TRrs3]; · iexact TRrs3
    isplitl [Hc11]; · iexact Hc11
    iexact Hp11
  iintro ⟨HO, Hc10, Hv11, R1⟩
  iintro %r
  obtain ⟨v457, v458, v463⟩ := r
  try dsimp only
  try simp only [wp_bind]
  iapply (part15_run m K c (above3 c) _ _ _ _) $$ [HO Hc12 Hp12 Hc13 Hp13]
  · isplitl []; · iexact He
    isplitl [HO]; · iexact HO
    isplitl [Hc12]; · iexact Hc12
    isplitl [Hp12]; · iexact Hp12
    isplitl [Hc13]; · iexact Hc13
    iexact Hp13
  iintro ⟨HO, Hv12, R2, Hv13, R3⟩
  iintro %r
  try dsimp only
  try simp only [wp_bind]
  iapply (part16_run m K c _ _) $$ [Y0 R1 R2 R3 Wred]
  · isplitl []; · iexact He
    isplitl [Y0]; · iexact Y0
    isplitl [R1]; · iexact R1
    isplitl [R2]; · iexact R2
    isplitl [R3]; · iexact R3
    iexists fred; iexact Wred
  iintro ⟨Y0, R1, R2, R3, Wred⟩
  try dsimp only
  try simp only [wp_bind]
  ihave Wred := (red_split c (redV m c)).1 $$ Wred
  icases Wred with ⟨E0, E1, E2, E3⟩
  iapply (part17_run m K c _) $$ [HO E1 Dag1 TSag1 TRag1 E2 Dag2 TSag2 TRag2]
  · isplitl []; · iexact He
    isplitl [HO]; · iexact HO
    isplitl [E1]; · iexact E1
    isplitl [Dag1]; · iexact Dag1
    isplitl [TSag1]; · iexact TSag1
    isplitl [TRag1]; · iexact TRag1
    isplitl [E2]; · iexact E2
    isplitl [Dag2]; · iexact Dag2
    isplitl [TSag2]; · iexact TSag2
    iexact TRag2
  iintro ⟨HO, Hc14, Hc15⟩
  iintro %r
  try dsimp only
  try simp only [wp_bind]
  iapply (part18_run m K c _ _) $$ [HO E3 Dag3 TSag3 TRag3 Hw]
  · isplitl []; · iexact He
    isplitl [HO]; · iexact HO
    isplitl [E3]; · iexact E3
    isplitl [Dag3]; · iexact Dag3
    isplitl [TSag3]; · iexact TSag3
    isplitl [TRag3]; · iexact TRag3
    iexact Hw
  iintro ⟨HO, Hc16, Hw⟩
  iintro %r
  try dsimp only
  try simp only [wp_bind]
  iapply (part19_run m K c (aboveE c) _ _) $$ [HO Hc17 Hp17 Hw]
  · isplitl []; · iexact He
    isplitl [HO]; · iexact HO
    isplitl [Hc17]; · iexact Hc17
    isplitl [Hp17]; · iexact Hp17
    iexact Hw
  iintro ⟨HO, Hv17, A1, Hw⟩
  iintro %r
  try dsimp only
  try simp only [wp_bind]
  iapply (part20_run m K c _ _) $$ [A1 Hw]
  · isplitl []; · iexact He
    isplitl [A1]; · iexact A1
    iexact Hw
  iintro ⟨A1, Hw⟩
  iintro %r
  obtain ⟨v669, v671⟩ := r
  try dsimp only
  try simp only [wp_bind]
  iapply (part21_run m K c (aboveE c) _ _ _) $$ [HO Hc18 Hp18]
  · isplitl []; · iexact He
    isplitl [HO]; · iexact HO
    isplitl [Hc18]; · iexact Hc18
    iexact Hp18
  iintro ⟨HO, Hv18, A2⟩
  iintro %a1 %a2 %a3 %a4 %a5
  dsimp only
  try simp only [wp_bind]
  iapply (part22_run m K c _ _ _ _ _ _) $$ [Hw]
  · isplitl []; · iexact He
    iexact Hw
  iintro Hw
  iintro %r
  obtain ⟨v738, v743, v744⟩ := r
  try dsimp only
  try simp only [wp_bind]
  iapply (part23_run m K c (aboveE c) _ _ _ _) $$ [HO Hc19 Hp19]
  · isplitl []; · iexact He
    isplitl [HO]; · iexact HO
    isplitl [Hc19]; · iexact Hc19
    iexact Hp19
  iintro ⟨HO, Hv19, A3⟩
  iintro %b1 %b2 %b3 %b4 %b5
  dsimp only
  try simp only [wp_bind]
  iapply (part24_run m K c (aboveE0 c) _ _ _ _ _) $$ [HO Hc2 Hp2 Hw]
  · isplitl []; · iexact He
    isplitl [HO]; · iexact HO
    isplitl [Hc2]; · iexact Hc2
    isplitl [Hp2]; · iexact Hp2
    iexact Hw
  iintro ⟨HO, Hv2, S1, Hw⟩
  try dsimp only
  try simp only [wp_bind]
  iapply (part25_run m K c (aboveE0 c)) $$ [HO Hc3 Hp3 Hc4 Hp4 Hc8 Hp8 Hc9 Hp9]
  · isplitl []; · iexact He
    isplitl [HO]; · iexact HO
    isplitl [Hc3]; · iexact Hc3
    isplitl [Hp3]; · iexact Hp3
    isplitl [Hc4]; · iexact Hc4
    isplitl [Hp4]; · iexact Hp4
    isplitl [Hc8]; · iexact Hc8
    isplitl [Hp8]; · iexact Hp8
    isplitl [Hc9]; · iexact Hc9
    iexact Hp9
  iintro ⟨HO, Hv3, S2, Hv4, S3, Hv8, Y1, Hv9, Y2⟩
  try dsimp only
  try simp only [wp_bind]
  iapply (step_dma m K c 10 (by decide) (by decide) rfl _ (P := iprop(pbP c (c + 3) (pbV m c))) (aboveE0 c) rfl) $$ [Hc10 HO Hp10]
  · isplitl []; · iexact He
    isplitl [Hc10]; · iexact Hc10
    isplitl [HO]; · iexact HO
    iexact Hp10
  iintro ⟨HO, Hv10, Y3⟩
  iapply (step_dma m K c 14 (by decide) (by decide) rfl _ (P := iprop(redP c (redQ 0) (redV m c))) (aboveE0 c) rfl) $$ [Hc14 HO Hp14]
  · isplitl []; · iexact He
    isplitl [Hc14]; · iexact Hc14
    isplitl [HO]; · iexact HO
    iexact Hp14
  iintro ⟨HO, Hv14, E1⟩
  iapply (step_dma m K c 15 (by decide) (by decide) rfl _ (P := iprop(redP c (redQ 1) (redV m c))) (aboveE0 c) rfl) $$ [Hc15 HO Hp15]
  · isplitl []; · iexact He
    isplitl [Hc15]; · iexact Hc15
    isplitl [HO]; · iexact HO
    iexact Hp15
  iintro ⟨HO, Hv15, E2⟩
  rw [wp_ret]
  imodintro
  iapply (step_dma m K c 16 (by decide) (by decide) rfl _ (P := iprop(redP c (redQ 2) (redV m c))) (aboveE0 c) rfl) $$ [Hc16 HO Hp16]
  · isplitl []; · iexact He
    isplitl [Hc16]; · iexact Hc16
    isplitl [HO]; · iexact HO
    iexact Hp16
  iintro ⟨HO, Hv16, E3⟩
  rw [out_stored]
  rw [wp_ret]
  imodintro
  iapply Hk
  isplitl [HO]; · iexact HO
  isplitl [Hi0]; · iexact Hi0
  isplitl [Hi1]; · iexact Hi1
  isplitl [Hi2]; · iexact Hi2
  isplitl [Hi3]; · iexact Hi3
  isplitl [Hi4]; · iexact Hi4
  isplitl [Hw]; · iexact Hw
  isplitl [S0 S1 S2 S3]
  · iexists (kvsV m c)
    rw [kvs_split]
    isplitl [S0]; · iexact S0
    isplitl [S1]; · iexact S1
    isplitl [S2]; · iexact S2
    iexact S3
  isplitl [F0 F1 F2 F3]
  · iexists (kvfV m c)
    rw [kvf_split]
    isplitl [F0]; · iexact F0
    isplitl [F1]; · iexact F1
    isplitl [F2]; · iexact F2
    iexact F3
  isplitl [Y0 Y1 Y2 Y3]
  · iexists (pbV m c)
    rw [pb_split]
    isplitl [Y0]; · iexact Y0
    isplitl [Y1]; · iexact Y1
    isplitl [Y2]; · iexact Y2
    iexact Y3
  isplitl [R0 R1 R2 R3]
  · iapply (rs_join c (rsV m c)) $$ [R0 R1 R2 R3]
    isplitl [R0]; · iexists frs; iexact R0
    isplitl [R1]; · iexact R1
    isplitl [R2]; · iexact R2
    iexact R3
  isplitl [E0 E1 E2 E3]
  · iexists (redV m c)
    iapply (red_split c (redV m c)).2 $$ [E0 E1 E2 E3]
    isplitl [E0]; · iexact E0
    isplitl [E1]; · iexact E1
    isplitl [E2]; · iexact E2
    iexact E3
  isplitl [A0 A1 A2 A3]
  · iapply (ag_join c (agV m c)) $$ [A0 A1 A2 A3]
    isplitl [A0]; · iexists fag; iexact A0
    isplitl [A1]; · iexact A1
    isplitl [A2]; · iexact A2
    iexact A3
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  isplitl [Hv7]; · iexact Hv7
  isplitl [Hv8]; · iexact Hv8
  isplitl [Hv9]; · iexact Hv9
  isplitl [Hv10]; · iexact Hv10
  isplitl [Hv11]; · iexact Hv11
  isplitl [Hv12]; · iexact Hv12
  isplitl [Hv13]; · iexact Hv13
  isplitl [Hv14]; · iexact Hv14
  isplitl [Hv15]; · iexact Hv15
  isplitl [Hv16]; · iexact Hv16
  isplitl [Hv17]; · iexact Hv17
  isplitl [Hv18]; · iexact Hv18
  iexact Hv19

end Cert.KernelIdealProof
-- ==== Proof.IdealLaunch.lean ====
/-
# The launch

The semaphores' invariants are set up for all devices at once, the rights to pay are dealt to the devices that pay, and
every device runs the body. The last theorem says what every run of the program ends in.
-/
module

public import proofs.«01_k».proof.Proof.IdealBody
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Quiescent
public import Idealize.ShloMosaic.Lib.Pipeline.BigSepL
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 20 → ℕ)

/-! ## The staging windows -/

abbrev t₀ : Fin cfg0.N := t0_0

theorem fin_N (t : Fin cfg0.N) : t = t₀ := fin_N0 t

/-- The windows' blocks as one row. -/
theorem win_chain (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A buffer at given contents. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

/-! ## The semaphores the launch hands over -/

/-- The kernel's own semaphores that no transfer uses. -/
def spareS : Fin 7 → SemLoc sig :=
  ![.dma ⟨6, by decide⟩, .dma ⟨10, by decide⟩, .dma ⟨14, by decide⟩, .dma ⟨18, by decide⟩, .dma ⟨22, by decide⟩, .dma ⟨26, by decide⟩, .dma ⟨31, by decide⟩]

/-- The kernel's own semaphores: those of the protocol but the barrier, then the unused ones. -/
def osem : Fin 26 → SemLoc sig :=
  ![sl 1, sl 2, sl 3, sl 4, sl 5, sl 6, sl 7, sl 8, sl 9, sl 10, sl 11, sl 12, sl 13, sl 14, sl 15, sl 16, sl 17, sl 18, sl 19, spareS 0, spareS 1, spareS 2, spareS 3, spareS 4, spareS 5, spareS 6]

theorem ownSemFacts : Pipeline.OwnSemFacts cfg0.spec osem := by decide

/-- The unused semaphores of a device at zero. -/
def spare (c : Dev nD) : sProp 𝕄 :=
  iprop(semVal ((c : Thread nD τ), spareS 0) 0 ∗ semVal ((c : Thread nD τ), spareS 1) 0 ∗ semVal ((c : Thread nD τ), spareS 2) 0 ∗ semVal ((c : Thread nD τ), spareS 3) 0 ∗ semVal ((c : Thread nD τ), spareS 4) 0 ∗ semVal ((c : Thread nD τ), spareS 5) 0 ∗ semVal ((c : Thread nD τ), spareS 6) 0)

theorem chain20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem ownSems0_chain (c : Dev nD) :
    (Pipeline.ownSems0 (Ix := Unit) (Name := ℕ) (U := UU) (Lvl := ℕ) (Val := Elt F) (τ := τ) osem c : sProp 𝕄)
      = iprop(semVal (cell c 1) 0 ∗ semVal (cell c 2) 0 ∗ semVal (cell c 3) 0 ∗ semVal (cell c 4) 0 ∗ semVal (cell c 5) 0 ∗ semVal (cell c 6) 0 ∗ semVal (cell c 7) 0 ∗ semVal (cell c 8) 0 ∗ semVal (cell c 9) 0 ∗ semVal (cell c 10) 0 ∗ semVal (cell c 11) 0 ∗ semVal (cell c 12) 0 ∗ semVal (cell c 13) 0 ∗ semVal (cell c 14) 0 ∗ semVal (cell c 15) 0 ∗ semVal (cell c 16) 0 ∗ semVal (cell c 17) 0 ∗ semVal (cell c 18) 0 ∗ semVal (cell c 19) 0 ∗ semVal ((c : Thread nD τ), spareS 0) 0 ∗ semVal ((c : Thread nD τ), spareS 1) 0 ∗ semVal ((c : Thread nD τ), spareS 2) 0 ∗ semVal ((c : Thread nD τ), spareS 3) 0 ∗ semVal ((c : Thread nD τ), spareS 4) 0 ∗ semVal ((c : Thread nD τ), spareS 5) 0 ∗ semVal ((c : Thread nD τ), spareS 6) 0) := by
  rw [Pipeline.ownSems0_eq_of_list c osem [0, 1, 2, 3, 4, 5, 6, 7, 8, 9, 10, 11, 12, 13, 14, 15, 16, 17, 18, 19, 20, 21, 22, 23, 24, 25] (by decide) (by decide)]; rfl

theorem unscopedSems0_bar (c : Dev nD) : (unscopedSems0 c : sProp 𝕄) = semVal (cell c 0) 0 := by
  unfold unscopedSems0; rw [bigSep_eq_bigSepL_of_eq [SemLoc.reg barS] (by decide) (by decide)]; rfl

theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 20 => semVal (cell c k) 0) ∗ spare c) : sProp 𝕄) := by
  rw [ownSems0_chain, unscopedSems0_bar, chain20]
  unfold spare
  iintro ⟨⟨H1, H2, H3, H4, H5, H6, H7, H8, H9, H10, H11, H12, H13, H14, H15, H16, H17, H18, H19, Z0, Z1, Z2, Z3, Z4, Z5, Z6⟩, H0⟩
  isplitr [Z0 Z1 Z2 Z3 Z4 Z5 Z6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [Z0]; · iexact Z0
  isplitl [Z1]; · iexact Z1
  isplitl [Z2]; · iexact Z2
  isplitl [Z3]; · iexact Z3
  isplitl [Z4]; · iexact Z4
  isplitl [Z5]; · iexact Z5
  iexact Z6

theorem sems_out (c : Dev nD) :
    iprop(semVal (cell c 0) 0 ∗ semVal (cell c 1) 0 ∗ semVal (cell c 2) 0 ∗ semVal (cell c 3) 0 ∗ semVal (cell c 4) 0 ∗ semVal (cell c 5) 0 ∗ semVal (cell c 6) 0 ∗ semVal (cell c 7) 0 ∗ semVal (cell c 8) 0 ∗ semVal (cell c 9) 0 ∗ semVal (cell c 10) 0 ∗ semVal (cell c 11) 0 ∗ semVal (cell c 12) 0 ∗ semVal (cell c 13) 0 ∗ semVal (cell c 14) 0 ∗ semVal (cell c 15) 0 ∗ semVal (cell c 16) 0 ∗ semVal (cell c 17) 0 ∗ semVal (cell c 18) 0 ∗ semVal (cell c 19) 0 ∗ spare c)
      ⊢ (iprop(unscopedSems0 c ∗ Pipeline.ownSems0 (Ix := Unit) (Name := ℕ) (U := UU) (Lvl := ℕ) (Val := Elt F) (τ := τ) osem c) : sProp 𝕄) := by
  rw [ownSems0_chain, unscopedSems0_bar]
  unfold spare
  iintro ⟨H0, H1, H2, H3, H4, H5, H6, H7, H8, H9, H10, H11, H12, H13, H14, H15, H16, H17, H18, H19, Z0, Z1, Z2, Z3, Z4, Z5, Z6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [Z0]; · iexact Z0
  isplitl [Z1]; · iexact Z1
  isplitl [Z2]; · iexact Z2
  isplitl [Z3]; · iexact Z3
  isplitl [Z4]; · iexact Z4
  isplitl [Z5]; · iexact Z5
  iexact Z6

/-! ## Cells and rights to pay -/

theorem cell_inj : Function.Injective (fun x : Dev nD × Fin 20 => cell x.1 x.2) := by
  rintro ⟨c, k⟩ ⟨c', k'⟩ h
  have h1 : c = c' := congrArg (fun g : GSem nD τ sig => g.1.1) h
  have h2 : k = k' := sl_inj (congrArg (fun g : GSem nD τ sig => g.2) h)
  subst h1; subst h2; rfl
def allCells : Finset (GSem nD τ sig) := Finset.univ.map ⟨fun x : Dev nD × Fin 20 => cell x.1 x.2, cell_inj⟩

/-- The payments a device's semaphores wait for, and how many places before the paying device its payee is. -/
def payee : Fin 22 → Fin 20 × Fin 4 := ![(0, 1), (0, 2), (0, 3), (1, 0), (2, 0), (3, 0), (4, 0), (8, 0), (9, 0), (10, 0), (14, 0), (15, 0), (16, 0), (5, 0), (6, 0), (7, 0), (11, 0), (12, 0), (13, 0), (17, 0), (18, 0), (19, 0)]
def shiftBy : Fin 22 → Dev nD := ![3, 2, 1, 0, 0, 0, 0, 0, 0, 0, 0, 0, 0, 1, 2, 3, 1, 2, 3, 1, 2, 3]

theorem payee_inj : Function.Injective payee := by decide

theorem right_inj : Function.Injective (fun x : Dev nD × Fin 22 => ((cell x.1 (payee x.2).1, 0, (payee x.2).2) : GSem nD τ sig × ℕ × Fin 4)) := by
  rintro ⟨c, j⟩ ⟨c', j'⟩ h
  have h1 : c = c' := congrArg (fun g : GSem nD τ sig × ℕ × Fin 4 => g.1.1.1) h
  have h2 : (payee j).1 = (payee j').1 := sl_inj (congrArg (fun g : GSem nD τ sig × ℕ × Fin 4 => g.1.2) h)
  have h3 : (payee j).2 = (payee j').2 := congrArg (fun g : GSem nD τ sig × ℕ × Fin 4 => g.2.2) h
  have h4 : j = j' := payee_inj (Prod.ext h2 h3)
  subst h1; subst h4; rfl
def allRights : Finset (GSem nD τ sig × ℕ × Fin 4) :=
  Finset.univ.map ⟨fun x : Dev nD × Fin 22 => ((cell x.1 (payee x.2).1, 0, (payee x.2).2) : GSem nD τ sig × ℕ × Fin 4), right_inj⟩

/-- What the run starts from: the pipeline's part and the protocol's. -/
def u₀ : UU :=
  (initOf (Pipeline.cells cfgs cellOf_inj) (Pipeline.launchToks cfgs cellOf_inj), initOf allCells allRights)

/-- The rights to pay device `c`'s own semaphores, and the rights device `c` uses. -/
def ownRights (c : Dev nD) : sProp 𝕄 := bigSep Finset.univ fun j : Fin 22 => tok c (payee j).1 (payee j).2
def useRights (c : Dev nD) : sProp 𝕄 := bigSep Finset.univ fun j : Fin 22 => tok (c + shiftBy j) (payee j).1 (payee j).2

/-- Every right goes to the device that uses it. -/
theorem rights_dealt : (bigSep Finset.univ fun c : Dev nD => (ownRights c : sProp 𝕄)) = bigSep Finset.univ fun c : Dev nD => useRights c := by
  unfold ownRights useRights
  rw [← bigSep_univ_prod (fun x : Dev nD × Fin 22 => (tok x.1 (payee x.2).1 (payee x.2).2 : sProp 𝕄)),
    ← bigSep_univ_prod (fun x : Dev nD × Fin 22 => (tok (x.1 + shiftBy x.2) (payee x.2).1 (payee x.2).2 : sProp 𝕄))]
  exact bigSep_univ_equiv (⟨fun x => (x.1 + shiftBy x.2, x.2), fun x => (x.1 - shiftBy x.2, x.2),
      fun x => Prod.ext (add_sub_cancel_right x.1 _) rfl, fun x => Prod.ext (sub_add_cancel x.1 _) rfl⟩ : (Dev nD × Fin 22) ≃ (Dev nD × Fin 22))
    (fun x : Dev nD × Fin 22 => (tok x.1 (payee x.2).1 (payee x.2).2 : sProp 𝕄))

/-- What the start element deals device `c`. -/
def dealt (c : Dev nD) : sProp 𝕄 :=
  iprop((bigSep Finset.univ fun k : Fin 20 => roundState ER (Rd m) (cell c k) 0)
    ∗ (bigSep Finset.univ fun k : Fin 20 => iprop(pos c k ∗ reached ER (cell c k) 0)) ∗ ownRights c)

theorem dealing : BI.own (ER (initOf allCells allRights)) ⊢ (|==> bigSep Finset.univ (dealt m) : sProp 𝕄) := by
  have hX (Φ : GSem nD τ sig → sProp 𝕄) : bigSep allCells Φ = bigSep Finset.univ fun c : Dev nD => bigSep Finset.univ fun k : Fin 20 => Φ (cell c k) := by
    unfold allCells; rw [bigSep_map, bigSep_univ_prod]; rfl
  have hT : bigSep allRights (fun x => (dutyTok ER x.1 x.2.1 x.2.2 : sProp 𝕄)) = bigSep Finset.univ fun c : Dev nD => ownRights c := by
    unfold allRights; rw [bigSep_map, bigSep_univ_prod]; rfl
  iintro HX
  imod (Rounds.fund ER (Rd m) allCells allRights) $$ HX with ⟨Hs, Hr, Hp, Ht⟩
  imodintro
  ihave Hs := (BIBase.Entails.of_eq (hX fun g => roundState ER (Rd m) g 0)) $$ Hs
  ihave Hp := (BIBase.Entails.of_eq (hX fun g => atPos ER g 0 ∅ 0)) $$ Hp
  ihave Hr := (BIBase.Entails.of_eq (hX fun g => reached ER g 0)) $$ Hr
  ihave Ht := (BIBase.Entails.of_eq hT) $$ Ht
  unfold dealt
  simp only [bigSep_sep']
  isplitl [Hs]; · iexact Hs
  isplitl [Hp Hr]
  · isplitl [Hp]; · iexact Hp
    iexact Hr
  iexact Ht

/-- What stays with device `c` besides the records: its places, the rights it uses, and the unused semaphores. -/
def mine (c : Dev nD) : sProp 𝕄 := iprop((bigSep Finset.univ fun k : Fin 20 => pos c k) ∗ useRights c ∗ spare c)

/-- What a device starts from. -/
def ghost (c : Dev nD) : sProp 𝕄 := iprop(∃ K, records m K ∗ mine c)

/-- The invariants of a device's semaphores are set up. -/
theorem setup (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 20 => iprop(∃ κ : ℕ, cellInv ER (Rd m) κ (cell c k)))
          ∗ (bigSep Finset.univ fun k : Fin 20 => iprop(pos c k ∗ reached ER (cell c k) 0)) ∗ ownRights c ∗ spare c) := by
  unfold dealt
  iintro ⟨Ho, Hu, Hs, Hp, Ht⟩
  ihave Hv := (sems_in (F := F) c) $$ [Ho Hu]
  · isplitl [Ho]; · iexact Ho
    iexact Hu
  icases Hv with ⟨Hv, Hz⟩
  imod (show iprop((bigSep Finset.univ fun k : Fin 20 => semVal (cell c k) 0) ∗ bigSep Finset.univ fun k : Fin 20 => roundState ER (Rd m) (cell c k) 0)
      ⊢ (|={Set.univ}=> bigSep Finset.univ fun k : Fin 20 => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hs] with Hi
  · isplitl [Hv]; · iexact Hv
    iexact Hs
  imodintro
  isplitl [Hi]; · iexact Hi
  isplitl [Hp]; · iexact Hp
  isplitl [Ht]; · iexact Ht
  iexact Hz

/-- A persistent fact is given to every member of a family. -/
theorem share_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records of all devices collected, the rights dealt. -/
theorem collect :
    (bigSep Finset.univ fun c : Dev nD => iprop((bigSep Finset.univ fun k : Fin 20 => iprop(∃ κ : ℕ, cellInv ER (Rd m) κ (cell c k)))
          ∗ (bigSep Finset.univ fun k : Fin 20 => iprop(pos c k ∗ reached ER (cell c k) 0)) ∗ ownRights c ∗ spare c) : sProp 𝕄)
      ⊢ bigSep Finset.univ (ghost m) := by
  rw [bigSep_sep', bigSep_sep', bigSep_sep', ← bigSep_univ_prod (fun ck : Dev nD × Fin 20 => iprop(∃ κ : ℕ, cellInv ER (Rd m) κ (cell ck.1 ck.2))),
    bigSep_congr (s := Finset.univ) (fun (c : Dev nD) _ => bigSep_sep' Finset.univ (fun k : Fin 20 => (pos c k : sProp 𝕄)) (fun k => reached ER (cell c k) 0)),
    bigSep_sep', ← bigSep_univ_prod (fun ck : Dev nD × Fin 20 => (reached ER (cell ck.1 ck.2) 0 : sProp 𝕄)), rights_dealt]
  iintro ⟨HI, ⟨Hp, #HR⟩, Ht, Hz⟩
  ihave HK := (BI.bigSep_exists_pi Finset.univ (fun (ck : Dev nD × Fin 20) (κ : ℕ) => (cellInv ER (Rd m) κ (cell ck.1 ck.2) : sProp 𝕄))) $$ HI
  icases HK with ⟨%K, #HI⟩
  iapply (share_all (R := records m K) (Φ := mine) (Ψ := ghost m) fun c _ => by
    unfold ghost
    iintro ⟨#H1, H2⟩
    iexists K
    isplitr; · iexact H1
    iexact H2)
  isplitr
  · unfold records
    rw [bigSep_sep']
    isplitl; · iexact HI
    iexact HR
  · unfold mine
    rw [bigSep_sep', bigSep_sep']
    isplitl [Hp]; · iexact Hp
    isplitl [Ht]; · iexact Ht
    iexact Hz

/-- The one step that sets up all devices. -/
theorem setup_all :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (ghost m) :=
  ((bigSep_mono fun c _ => setup m c).trans (bigSep_fupd _ _)).trans (BI.fupd_mono (collect m))

/-! ## What a device may wait for from the start -/

/-- The payments of device `c`, each `d` places further on. -/
def duesL : List (Dev nD × Fin 20) := [(1, 0), (2, 0), (3, 0), (1, 5), (2, 6), (3, 7), (1, 11), (2, 12), (3, 13), (1, 17), (2, 18), (3, 19)]

theorem dues_eq (c : Dev nD) : dues c = duesL.map fun x => (c + x.1, x.2) := rfl

theorem credits (l : List (Dev nD × Fin 20)) (c : Dev nD) :
    (Pipeline.launchCred (fun d : Dev nD => O (l.map fun x => (d + x.1, x.2))) c : sProp 𝕄)
      ⊢ bigSepL l fun x => cred (tallyAt (cell c x.2) () (amt x.2)) := by
  induction l with
  | nil =>
    rw [bigSepL_nil]
    exact BIBase.Entails.of_eq (Pipeline.launchCred_zero c)
  | cons x l ih =>
    rw [bigSepL_cons', show (fun d : Dev nD => O ((x :: l).map fun x => (d + x.1, x.2)))
        = fun d : Dev nD => O (l.map fun x => (d + x.1, x.2)) + tallyAt (cell (d + x.1) x.2) () (amt x.2) from rfl, Pipeline.launchCred_add]
    iintro ⟨H1, H2⟩
    isplitl [H2]
    · iapply (Pipeline.launchCred_tallyAt (sl x.2) (fun d : Dev nD => d + x.1) (fun d => d - x.1) (fun d => sub_add_cancel d x.1) (fun d => add_sub_cancel_right d x.1) () (amt x.2) c)
      iexact H2
    · iapply ih
      iexact H1

theorem credits_all (c : Dev nD) : (Pipeline.launchCred (fun d : Dev nD => O (dues d)) c : sProp 𝕄) ⊢ iprop(crd c 0 ∗ crd c 5 ∗ crd c 6 ∗ crd c 7 ∗ crd c 11 ∗ crd c 12 ∗ crd c 13 ∗ crd c 17 ∗ crd c 18 ∗ crd c 19) := by
  have h := credits (F := F) duesL c
  refine BIBase.Entails.trans h ?_
  show iprop(cred (tallyAt (cell c 0) () (amt 0)) ∗ cred (tallyAt (cell c 0) () (amt 0)) ∗ cred (tallyAt (cell c 0) () (amt 0)) ∗ cred (tallyAt (cell c 5) () (amt 5)) ∗ cred (tallyAt (cell c 6) () (amt 6)) ∗ cred (tallyAt (cell c 7) () (amt 7)) ∗ cred (tallyAt (cell c 11) () (amt 11)) ∗ cred (tallyAt (cell c 12) () (amt 12)) ∗ cred (tallyAt (cell c 13) () (amt 13)) ∗ cred (tallyAt (cell c 17) () (amt 17)) ∗ cred (tallyAt (cell c 18) () (amt 18)) ∗ cred (tallyAt (cell c 19) () (amt 19))) ⊢ _
  unfold crd
  iintro ⟨A1, A2, A3, C5, C6, C7, C11, C12, C13, C17, C18, C19⟩
  isplitl [A1 A2 A3]
  · rw [show (if (0 : Fin 20) = 0 then 3 else amt 0) = amt 0 + (amt 0 + amt 0) from rfl, ← tallyAt_add, ← tallyAt_add]
    iapply (cred_add _ _).2
    isplitl [A1]; · iexact A1
    iapply (cred_add _ _).2
    isplitl [A2]; · iexact A2
    iexact A3
  isplitl [C5]; · iexact C5
  isplitl [C6]; · iexact C6
  isplitl [C7]; · iexact C7
  isplitl [C11]; · iexact C11
  isplitl [C12]; · iexact C12
  isplitl [C13]; · iexact C13
  isplitl [C17]; · iexact C17
  isplitl [C18]; · iexact C18
  iexact C19

/-! ## What the run holds between its points -/

def start (c : Dev nD) : sProp 𝕄 := iprop(ghost m c ∗ (crd c 0 ∗ crd c 5 ∗ crd c 6 ∗ crd c 7 ∗ crd c 11 ∗ crd c 12 ∗ crd c 13 ∗ crd c 17 ∗ crd c 18 ∗ crd c 19) ∗ levAts L lv)

def scratches (c : Dev nD) : sProp 𝕄 := iprop((∃ f, kvsW (F := F) c f) ∗ (∃ f, kvfW (F := F) c f) ∗ (∃ f, pbW (F := F) c f) ∗ (∃ f, rsW (F := F) c f) ∗ (∃ f, redW (F := F) c f) ∗ (∃ f, agW (F := F) c f))

def Φ₀ (c : Dev nD) : sProp 𝕄 := iprop(start m c ∗ scratches c)
def Φ₁ (c : Dev nD) : sProp 𝕄 := iprop(scratches c ∗ (semVal (cell c 0) 0 ∗ semVal (cell c 1) 0 ∗ semVal (cell c 2) 0 ∗ semVal (cell c 3) 0 ∗ semVal (cell c 4) 0 ∗ semVal (cell c 5) 0 ∗ semVal (cell c 6) 0 ∗ semVal (cell c 7) 0 ∗ semVal (cell c 8) 0 ∗ semVal (cell c 9) 0 ∗ semVal (cell c 10) 0 ∗ semVal (cell c 11) 0 ∗ semVal (cell c 12) 0 ∗ semVal (cell c 13) 0 ∗ semVal (cell c 14) 0 ∗ semVal (cell c 15) 0 ∗ semVal (cell c 16) 0 ∗ semVal (cell c 17) 0 ∗ semVal (cell c 18) 0 ∗ semVal (cell c 19) 0) ∗ spare c)

/-- The pipeline's data: the arrays as launched, and what the body leaves in each window. -/
def dats (_ : Fin 1) (c : Dev nD) : Dat τ (Elt F) Unit ℕ UU ℕ cfg0 c where
  A w := m ((cfg0.win w).arr.view.loc (c : Thread nD τ))
  after w _ := match w with
    | ⟨0, _⟩ => in0 m c
    | ⟨1, _⟩ => in1 m c
    | ⟨2, _⟩ => in2 m c
    | ⟨3, _⟩ => in3 m c
    | ⟨4, _⟩ => in4 m c
    | ⟨5, _⟩ => outV m c
  Φ t := match t with
    | ⟨0, _⟩ => Φ₀ m c
    | ⟨_ + 1, _⟩ => Φ₁ c
  q _ := fullShare
  owed t := match t with
    | ⟨0, _⟩ => O (dues c)
    | ⟨_ + 1, _⟩ => 0

theorem share_full (c : Dev nD) (w : Fin cfg0.W) : (dats m 0 c).share w = fullShare := by unfold Dat.share; split <;> rfl

def bodyIn (c : Dev nD) : sProp 𝕄 :=
  iprop(Φ₀ m c ∗ (dats m 0 c).owesAt () t₀.castSucc
    ∗ (∃ d, held c cc0_stg0_0 ((dats m 0 c).before (0 : Fin 6) t₀ d)) ∗ (∃ d, held c cc0_stg1_0 ((dats m 0 c).before (1 : Fin 6) t₀ d)) ∗ (∃ d, held c cc0_stg2_0 ((dats m 0 c).before (2 : Fin 6) t₀ d)) ∗ (∃ d, held c cc0_stg3_0 ((dats m 0 c).before (3 : Fin 6) t₀ d)) ∗ (∃ d, held c cc0_stg4_0 ((dats m 0 c).before (4 : Fin 6) t₀ d)) ∗ (∃ d, held c cc0_stg5_0 ((dats m 0 c).before (5 : Fin 6) t₀ d)))
def bodyOut (c : Dev nD) : sProp 𝕄 :=
  iprop(Φ₁ c ∗ (dats m 0 c).owesAt () t₀.succ
    ∗ held c cc0_stg0_0 (in0 m c) ∗ held c cc0_stg1_0 (in1 m c) ∗ held c cc0_stg2_0 (in2 m c) ∗ held c cc0_stg3_0 (in3 m c) ∗ held c cc0_stg4_0 (in4 m c) ∗ held c cc0_stg5_0 (outV m c))

theorem rights_chain (c : Dev nD) : (useRights c : sProp 𝕄)
    = iprop(tok (c + 3) 0 1 ∗ tok (c + 2) 0 2 ∗ tok (c + 1) 0 3 ∗ tok (c + 0) 1 0 ∗ tok (c + 0) 2 0 ∗ tok (c + 0) 3 0 ∗ tok (c + 0) 4 0 ∗ tok (c + 0) 8 0 ∗ tok (c + 0) 9 0 ∗ tok (c + 0) 10 0 ∗ tok (c + 0) 14 0 ∗ tok (c + 0) 15 0 ∗ tok (c + 0) 16 0 ∗ tok (c + 1) 5 0 ∗ tok (c + 2) 6 0 ∗ tok (c + 3) 7 0 ∗ tok (c + 1) 11 0 ∗ tok (c + 2) 12 0 ∗ tok (c + 3) 13 0 ∗ tok (c + 1) 17 0 ∗ tok (c + 2) 18 0 ∗ tok (c + 3) 19 0) :=
  bigSep_univ_eq_bigSepL [0, 1, 2, 3, 4, 5, 6, 7, 8, 9, 10, 11, 12, 13, 14, 15, 16, 17, 18, 19, 20, 21] (by decide) (by decide) _

/-- The body takes a device from what the pipeline gives it to what the pipeline expects back. -/
theorem body_sound (c : Dev nD) :
    bodyIn m c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) (fun _ => bodyOut m c) := by
  unfold bodyIn Φ₀ start ghost mine scratches
  rw [chain20, rights_chain]
  simp only [add_zero]
  iintro ⟨⟨⟨⟨%K, #Hrec, ⟨P0, P1, P2, P3, P4, P5, P6, P7, P8, P9, P10, P11, P12, P13, P14, P15, P16, P17, P18, P19⟩, ⟨T0_1_3, T0_2_2, T0_3_1, T1_0_0, T2_0_0, T3_0_0, T4_0_0, T8_0_0, T9_0_0, T10_0_0, T14_0_0, T15_0_0, T16_0_0, T5_0_1, T6_0_2, T7_0_3, T11_0_1, T12_0_2, T13_0_3, T17_0_1, T18_0_2, T19_0_3⟩, Hz⟩, ⟨C0, C5, C6, C7, C11, C12, C13, C17, C18, C19⟩, #Hlev⟩, ⟨Wkvs, Wkvf, Wpb, Wrs, Wred, Wag⟩⟩,
    Ho, ⟨%d0, %g0, %h0, I0⟩, ⟨%d1, %g1, %h1, I1⟩, ⟨%d2, %g2, %h2, I2⟩, ⟨%d3, %g3, %h3, I3⟩, ⟨%d4, %g4, %h4, I4⟩, ⟨%d5, %g5, %h5, I5⟩⟩
  have e0 : g0 = in0 m c := by rw [h0]; unfold Dat.before; rw [if_pos (fetch0_0 t₀)]; rfl
  subst e0
  have e1 : g1 = in1 m c := by rw [h1]; unfold Dat.before; rw [if_pos (fetch0_1 t₀)]; rfl
  subst e1
  have e2 : g2 = in2 m c := by rw [h2]; unfold Dat.before; rw [if_pos (fetch0_2 t₀)]; rfl
  subst e2
  have e3 : g3 = in3 m c := by rw [h3]; unfold Dat.before; rw [if_pos (fetch0_3 t₀)]; rfl
  subst e3
  have e4 : g4 = in4 m c := by rw [h4]; unfold Dat.before; rw [if_pos (fetch0_4 t₀)]; rfl
  subst e4
  unfold Dat.owesAt Pipeline.owesWithin
  icases Ho with ⟨%W, %hW, HO⟩
  rw [show (dats m 0 c).owed t₀.castSucc = O (dues c) from rfl]
  iapply (body_run m K c) $$ [HO T0_3_1 T0_2_2 T0_1_3 T5_0_1 T6_0_2 T7_0_3 T11_0_1 T12_0_2 T13_0_3 T17_0_1 T18_0_2 T19_0_3 T1_0_0 T2_0_0 T3_0_0 T4_0_0 T8_0_0 T9_0_0 T10_0_0 T14_0_0 T15_0_0 T16_0_0 C0 C5 C6 C7 C11 C12 C13 C17 C18 C19 P0 P1 P2 P3 P4 P5 P6 P7 P8 P9 P10 P11 P12 P13 P14 P15 P16 P17 P18 P19 I0 I1 I2 I3 I4 I5 Wkvs Wkvf Wpb Wrs Wred Wag]
  · isplitl []
    · unfold env
      isplitl; · iexact Hrec
      iexact Hlev
    unfold bodyStart
    isplitl [HO]; · (unfold owesS; iexists W; iexact HO)
    isplitl [T0_3_1]; · iexact T0_3_1
    isplitl [T0_2_2]; · iexact T0_2_2
    isplitl [T0_1_3]; · iexact T0_1_3
    isplitl [T5_0_1]; · iexact T5_0_1
    isplitl [T6_0_2]; · iexact T6_0_2
    isplitl [T7_0_3]; · iexact T7_0_3
    isplitl [T11_0_1]; · iexact T11_0_1
    isplitl [T12_0_2]; · iexact T12_0_2
    isplitl [T13_0_3]; · iexact T13_0_3
    isplitl [T17_0_1]; · iexact T17_0_1
    isplitl [T18_0_2]; · iexact T18_0_2
    isplitl [T19_0_3]; · iexact T19_0_3
    isplitl [T1_0_0]; · iexact T1_0_0
    isplitl [T2_0_0]; · iexact T2_0_0
    isplitl [T3_0_0]; · iexact T3_0_0
    isplitl [T4_0_0]; · iexact T4_0_0
    isplitl [T8_0_0]; · iexact T8_0_0
    isplitl [T9_0_0]; · iexact T9_0_0
    isplitl [T10_0_0]; · iexact T10_0_0
    isplitl [T14_0_0]; · iexact T14_0_0
    isplitl [T15_0_0]; · iexact T15_0_0
    isplitl [T16_0_0]; · iexact T16_0_0
    isplitl [C0]; · iexact C0
    isplitl [C5]; · iexact C5
    isplitl [C6]; · iexact C6
    isplitl [C7]; · iexact C7
    isplitl [C11]; · iexact C11
    isplitl [C12]; · iexact C12
    isplitl [C13]; · iexact C13
    isplitl [C17]; · iexact C17
    isplitl [C18]; · iexact C18
    isplitl [C19]; · iexact C19
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    isplitl [P17]; · iexact P17
    isplitl [P18]; · iexact P18
    isplitl [P19]; · iexact P19
    isplitl [I0]; · iexact I0
    isplitl [I1]; · iexact I1
    isplitl [I2]; · iexact I2
    isplitl [I3]; · iexact I3
    isplitl [I4]; · iexact I4
    isplitl [I5]; · iexists g5; iexact I5
    isplitl [Wkvs]; · iexact Wkvs
    isplitl [Wkvf]; · iexact Wkvf
    isplitl [Wpb]; · iexact Wpb
    isplitl [Wrs]; · iexact Wrs
    isplitl [Wred]; · iexact Wred
    iexact Wag
  unfold bodyEnd owesS
  iintro ⟨⟨%W2, HO⟩, Hi0, Hi1, Hi2, Hi3, Hi4, Hw, Wkvs, Wkvf, Wpb, Wrs, Wred, Wag, Hv0, Hv1, Hv2, Hv3, Hv4, Hv5, Hv6, Hv7, Hv8, Hv9, Hv10, Hv11, Hv12, Hv13, Hv14, Hv15, Hv16, Hv17, Hv18, Hv19⟩
  unfold bodyOut Φ₁ scratches Dat.owesAt Pipeline.owesWithin
  rw [show (dats m 0 c).owed t₀.succ = O [] from rfl]
  isplitl [Wkvs Wkvf Wpb Wrs Wred Wag Hv0 Hv1 Hv2 Hv3 Hv4 Hv5 Hv6 Hv7 Hv8 Hv9 Hv10 Hv11 Hv12 Hv13 Hv14 Hv15 Hv16 Hv17 Hv18 Hv19 Hz]
  · isplitl [Wkvs Wkvf Wpb Wrs Wred Wag]
    · isplitl [Wkvs]; · iexact Wkvs
      isplitl [Wkvf]; · iexact Wkvf
      isplitl [Wpb]; · iexact Wpb
      isplitl [Wrs]; · iexact Wrs
      isplitl [Wred]; · iexact Wred
      iexact Wag
    isplitr [Hz]
    · isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      isplitl [Hv7]; · iexact Hv7
      isplitl [Hv8]; · iexact Hv8
      isplitl [Hv9]; · iexact Hv9
      isplitl [Hv10]; · iexact Hv10
      isplitl [Hv11]; · iexact Hv11
      isplitl [Hv12]; · iexact Hv12
      isplitl [Hv13]; · iexact Hv13
      isplitl [Hv14]; · iexact Hv14
      isplitl [Hv15]; · iexact Hv15
      isplitl [Hv16]; · iexact Hv16
      isplitl [Hv17]; · iexact Hv17
      isplitl [Hv18]; · iexact Hv18
      iexact Hv19
    iexact Hz
  isplitl [HO]
  · iexists W2
    isplitr; · ipureintro; exact fun _ _ => Or.inl trivial
    iexact HO
  isplitl [Hi0]
  · iexists _; isplitr; · (ipureintro; rfl)
    iexact Hi0
  isplitl [Hi1]
  · iexists _; isplitr; · (ipureintro; rfl)
    iexact Hi1
  isplitl [Hi2]
  · iexists _; isplitr; · (ipureintro; rfl)
    iexact Hi2
  isplitl [Hi3]
  · iexists _; isplitr; · (ipureintro; rfl)
    iexact Hi3
  isplitl [Hi4]
  · iexists _; isplitr; · (ipureintro; rfl)
    iexact Hi4
  iexists _; isplitr; · (ipureintro; rfl)
  iexact Hw

set_option maxRecDepth 4000 in
/-- The pipeline's obligation for the body. -/
theorem body_obligation (c : Dev nD) : BodyObligation (dats (F := F) m 0 c) (defs₀ (F := F)) 𝒱₀ () Set.univ := fun t => by
  rw [fin_N t]
  rw [win_chain, win_chain]
  simp only [owns_held]
  exact body_sound m c

/-! ## The run -/

theorem start_intro (c : Dev nD) :
    iprop(Pipeline.unscopedRestP Pipeline.Prefetch.none cfg0.spec c (fun b => m ((c : Thread nD τ).loc b)) ∗ levAts L lv
        ∗ Pipeline.launchCred (fun d : Dev nD => O (dues d)) c ∗ prngReg c (ρ c) ∗ ghost m c)
      ⊢ |={Set.univ}=> iprop(start m c ∗ emp) := by
  iintro ⟨-, Hlev, Hcr, -, HG⟩
  ihave Hc := (credits_all (F := F) c) $$ Hcr
  imodintro
  unfold start
  isplitl
  · isplitl [HG]; · iexact HG
    isplitl [Hc]; · iexact Hc
    iexact Hlev
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

theorem last_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratches
  iintro ⟨Hr, Hv, Hz⟩
  icases Hv with ⟨H0, H1, H2, H3, H4, H5, H6, H7, H8, H9, H10, H11, H12, H13, H14, H15, H16, H17, H18, H19⟩
  ihave H := (sems_out (F := F) c) $$ [H0 H1 H2 H3 H4 H5 H6 H7 H8 H9 H10 H11 H12 H13 H14 H15 H16 H17 H18 H19 Hz]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact Hz
  icases H with ⟨Hu, Ho⟩
  isplitl [Hu]; · iexact Hu
  isplitl [Ho]; · iexact Ho
  iexact Hr

/-- The pipeline's own waits are below everything owed. -/
theorem stage_wait (c : Dev nD) (q : DmaSem sig) (hq : lv ((c : Thread nD τ), SemLoc.dma q) () = 0) (T : CellTallies nD τ sig Unit) (hT : T = O (dues c) ∨ T = O []) :
    (levAts L lv : sProp 𝕄) ⊢ MayWait (c : Thread nD τ) (.dma q) () T := by
  rcases hT with rfl | rfl
  · exact mayWait_list c _ 0 _ hq ((by decide : ∀ c : Dev nD, ∀ x ∈ dues c, 0 < lvk x.2) c)
  · exact mayWait_list c _ 0 _ hq (fun x hx => absurd hx List.not_mem_nil)

theorem stage_waits (c : Dev nD) : (levAts L lv : sProp 𝕄) ⊢ Pipeline.cellsWaits cfgs (dats m) () 0 c :=
  Pipeline.cellsWaits_intro cfgs (dats m) () 0 c fun w s t =>
    stage_wait c _ (by fin_cases w <;> fin_cases s <;> rfl) _ (by
      rcases t with ⟨_ | _, ht⟩
      · exact Or.inl rfl
      · exact Or.inr rfl)

/-- What window `w`'s array of device `c` holds after the run. -/
def final (c : Dev nD) (w : Fin cfg0.W) : Buf (Elt F) ((cfg0.win w).arr.view.loc (c : Thread nD τ)) := (dats m 0 c).arrAt w cfg0.N

set_option maxRecDepth 8000 in
/-- Every run from any memory with all counters at zero ends, with every window's array at its final contents and every
    counter at zero. -/
theorem run_main : θ_run defs (onTc (τ := τ) (main (F := F))) (s₀ m ρ)
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := fun d : Dev nD => O (dues d)) (howed₀ := fun _ => rfl) (howedN := fun _ => rfl)
    (L := L) (lv := lv) (hL := L_of_ne) (hwaits := stage_waits m)
    (G := dealt m) (G' := ghost m) (u₀ := u₀)
    (hu₀ := by
      unfold u₀
      iintro Hu
      ihave H := (ownU_pair _ _) $$ Hu
      icases H with ⟨HP, HX⟩
      imod (dealing m) $$ HX with HG
      imodintro
      isplitl [HP]; · iexact HP
      iexact HG)
    (hglob := setup_all m)
    (hA := fun _ _ => rfl) (hpf := fun _ k => k.elim0)
    (X := start m) (Y := fun c => unscopedSems0 c) (Z := fun _ => iprop(emp))
    (hX := start_intro m ρ) (hin := first_intro m) (hout := last_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- After the run the arguments hold what they held, and the result holds what the body stored. -/
theorem run_frame : θ_run defs (onTc (τ := τ) (main (F := F))) (s₀ m ρ) (fun r =>
    (∀ c : Dev nD,
      r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4)) ∧ r.2.sem = fun _ => 0) :=
  (θ_run defs _ _).mono (fun r h => ⟨fun c =>
    ⟨(h.1 c 0).trans ((dats m 0 c).arrAt_in 0 rfl _), (h.1 c 1).trans ((dats m 0 c).arrAt_in 1 rfl _), (h.1 c 2).trans ((dats m 0 c).arrAt_in 2 rfl _), (h.1 c 3).trans ((dats m 0 c).arrAt_in 3 rfl _), (h.1 c 4).trans ((dats m 0 c).arrAt_in 4 rfl _)⟩, h.2⟩) (run_main m ρ)

end Cert.KernelIdealProof
-- ==== Proof.ValueSpec.lean ====
/-
# The attention both programs compute

The function both programs compute, stated over the extended reals, and the one piece of mathematics between them: a
softmax taken with the maximum subtracted and applied weight by weight is the quotient of the two plain sums, as long
as every score is a real number.
-/
module

public import Idealize.ShloMosaic.Lib.Pointwise
public import Idealize.ShloMosaic.Lib.IdealHost
public import Idealize.ShloMosaic.Lib.Routing.OpsOrder

@[expose] public section

noncomputable section

namespace Cert.AttnSpec

open Idealize.ShloMosaic

/-- An array of extended reals. -/
abbrev Arr (s : Shape) : Type := s.Idx → EReal
abbrev SX : Shape := ⟨3, ![2, 256, 512]⟩
abbrev SQ : Shape := ⟨2, ![512, 1024]⟩
abbrev SK : Shape := ⟨4, ![2, 1024, 16, 64]⟩
abbrev SO : Shape := ⟨2, ![1024, 512]⟩

/-- Whether row `i` looks at column `j`: near the diagonal, or a leading column, or a leading row. -/
def keep (i j : ℕ) : BitVec 1 :=
  IntOp.ori (IntOp.cmpi .sle (IntOp.absi (IntOp.subi (BitVec.ofNat 32 i) (BitVec.ofNat 32 j))) 128#32)
    (IntOp.ori (IntOp.cmpi .slt (BitVec.ofNat 32 j) 32#32) (IntOp.cmpi .slt (BitVec.ofNat 32 i) 32#32))

section
variable (X : Arr SX) (WQ : Arr SQ) (KK VV : Arr SK) (WO : Arr SO)

/-- The scaled score of query `i` against key `j` in head `h`. -/
def score (b : Fin 2) (i : Fin 256) (h : Fin 16) (j : Fin 1024) : EReal :=
  (∑ d : Fin 64, (∑ e : Fin 512, X (ix3 b i e) * WQ (ix2 e ⟨h.val * 64 + d.val, by omega⟩)) * KK (ix4 b j h d))
    * Ideal.ofBits FTy.f32 1040187392#32

/-- The attention output of head `h`: the weighted values' sum over the weights' sum. -/
def ctx (b : Fin 2) (i : Fin 256) (h : Fin 16) (d : Fin 64) : EReal :=
  Ideal.div (∑ j : Fin 1024, Scalar.select (keep i.val j.val) (Ideal.exp (score X WQ KK b i h j) * VV (ix4 b j h d)) 0)
    (∑ j : Fin 1024, Scalar.select (keep i.val j.val) (Ideal.exp (score X WQ KK b i h j)) 0)

/-- The result: the heads' outputs, side by side, times the output matrix. -/
def out (b : Fin 2) (i : Fin 256) (n : Fin 512) : EReal :=
  ∑ t : Fin 1024, ctx X WQ KK VV b i ⟨t.val / 64, by omega⟩ ⟨t.val % 64, by omega⟩ * WO (ix2 t n)
end

/-! ## Sums -/

/-- A sum over 1024 places is the sum over four blocks of 256. -/
theorem sum_blocks (f : Fin 1024 → EReal) :
    ∑ j, f j = ∑ s : Fin 4, ∑ x : Fin 256, f ⟨256 * s.val + x.val, by omega⟩ := by
  rw [← Fintype.sum_prod_type', ← (finProdFinEquiv (m := 4) (n := 256)).sum_comp]
  refine Finset.sum_congr rfl fun p _ => congrArg f (Fin.ext ?_)
  simp [finProdFinEquiv, Nat.add_comm]

/-- The four devices counted backwards from any of them. -/
theorem sum_back (c : Fin 4) (g : Fin 4 → EReal) : g c + g (c - 1) + g (c - 2) + g (c - 3) = ∑ s, g s := by
  rw [Fin.sum_univ_four]
  fin_cases c
  · show g 0 + g 3 + g 2 + g 1 = _; abel
  · show g 1 + g 0 + g 3 + g 2 = _; abel
  · show g 2 + g 1 + g 0 + g 3 = _; abel
  · show g 3 + g 2 + g 1 + g 0 = _; abel

/-- A finite sum of reals, read among the extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A sum of real numbers is a real number. -/
theorem sum_real {ι : Type} (s : Finset ι) (f : ι → EReal) (h : ∀ j, ∃ r : ℝ, f j = r) : ∃ r : ℝ, ∑ j ∈ s, f j = r := by
  choose g hg using h
  exact ⟨∑ j ∈ s, g j, by rw [coe_sum]; exact Finset.sum_congr rfl fun j _ => hg j⟩

/-- A product of real numbers is a real number. -/
theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- Multiplying by a nonnegative real number goes through a finite sum, whatever the summands. -/
theorem sum_mul_coe {ι : Type} (s : Finset ι) (f : ι → EReal) {a : ℝ} (ha : 0 ≤ a) :
    (∑ j ∈ s, f j) * (a : EReal) = ∑ j ∈ s, f j * (a : EReal) := by
  classical
  induction s using Finset.induction_on with
  | empty => simp
  | insert b s hb ih =>
    rw [Finset.sum_insert hb, Finset.sum_insert hb,
      EReal.right_distrib_of_nonneg_of_ne_top (EReal.coe_nonneg.2 ha) (EReal.coe_ne_top a), ih]

/-! ## The softmax -/

theorem select_one {α : Type} {k : BitVec 1} (h : k = 1#1) (a b : α) : Scalar.select k a b = a := by
  subst h; rfl
theorem select_zero {α : Type} {k : BitVec 1} (h : k ≠ 1#1) (a b : α) : Scalar.select k a b = b := by
  have : k = 0#1 := by revert h; revert k; decide
  subst this; rfl

/-- The quotient of a real number by a nonzero real number. -/
theorem div_coe (a : ℝ) {b : ℝ} (hb : b ≠ 0) : Ideal.div (a : EReal) (b : EReal) = ((a * b⁻¹ : ℝ) : EReal) := by
  unfold Ideal.div
  rw [if_neg (by simpa using hb), ← EReal.coe_inv, ← EReal.coe_mul]

theorem div_coe' (x : EReal) {b : ℝ} (hb : b ≠ 0) : Ideal.div x (b : EReal) = x * ((b⁻¹ : ℝ) : EReal) := by
  unfold Ideal.div
  rw [if_neg (by simpa using hb), ← EReal.coe_inv]

/-- The largest of the kept scores is a real number. -/
theorem max_real {ι : Type} [Fintype ι] (k : ι → BitVec 1) (s : ι → ℝ) (j₀ : ι) (hk : k j₀ = 1#1) :
    ∃ μ : ℝ, Finset.fold max ⊥ (fun j => Scalar.select (k j) (s j : EReal) ⊥) Finset.univ = μ := by
  classical
  have hle : ∀ t : Finset ι, Finset.fold max ⊥ (fun j => Scalar.select (k j) (s j : EReal) ⊥) t ≠ ⊤ := by
    intro t
    induction t using Finset.induction_on with
    | empty => simp
    | insert a t ha ih =>
      rw [Finset.fold_insert ha]
      rcases max_choice (Scalar.select (k a) (s a : EReal) ⊥) (Finset.fold max ⊥ (fun j => Scalar.select (k j) (s j : EReal) ⊥) t) with h | h
      · rw [h]
        by_cases hh : k a = 1#1
        · rw [select_one hh]; exact EReal.coe_ne_top _
        · rw [select_zero hh]; exact bot_ne_top
      · rw [h]; exact ih
  have hbot : Finset.fold max ⊥ (fun j => Scalar.select (k j) (s j : EReal) ⊥) Finset.univ ≠ ⊥ := by
    intro h
    rw [← Finset.insert_erase (Finset.mem_univ j₀), Finset.fold_insert (Finset.notMem_erase _ _), select_one hk] at h
    have := le_max_left (s j₀ : EReal) (Finset.fold max ⊥ (fun j => Scalar.select (k j) (s j : EReal) ⊥) (Finset.univ.erase j₀))
    rw [h] at this
    exact EReal.coe_ne_bot _ (le_bot_iff.1 this)
  exact ⟨_, (EReal.coe_toReal (hle _) hbot).symm⟩

/-- The weight of one score under a subtracted real number. -/
theorem exp_sub (k : BitVec 1) (s μ : ℝ) : Ideal.exp (Scalar.select k (s : EReal) ⊥ - (μ : EReal))
    = (((if k = 1#1 then Real.exp s else 0) * Real.exp (-μ) : ℝ) : EReal) := by
  by_cases h : k = 1#1
  · rw [select_one h, if_pos h, ← EReal.coe_sub, ← Real.exp_add]; rfl
  · rw [select_zero h, if_neg h, zero_mul, EReal.bot_sub]; rfl

/-- The softmax applied to values: the maximum subtracted, each weight divided by the sum of the weights, is the
    quotient of the weighted values' sum by the weights' sum. -/
theorem softmax_mix {ι : Type} [Fintype ι] (k : ι → BitVec 1) (s v : ι → EReal) (hs : ∀ j, ∃ r : ℝ, s j = r)
    (j₀ : ι) (hk : k j₀ = 1#1) :
    ∑ j, v j * Ideal.div
        (Ideal.exp (Scalar.select (k j) (s j) ⊥ - Finset.fold max ⊥ (fun x => Scalar.select (k x) (s x) ⊥) Finset.univ))
        (∑ y, Ideal.exp (Scalar.select (k y) (s y) ⊥ - Finset.fold max ⊥ (fun x => Scalar.select (k x) (s x) ⊥) Finset.univ))
      = Ideal.div (∑ j, Scalar.select (k j) (Ideal.exp (s j) * v j) 0) (∑ j, Scalar.select (k j) (Ideal.exp (s j)) 0) := by
  choose r hr using hs
  obtain rfl : s = fun j => (r j : EReal) := funext hr
  obtain ⟨μ, hμ⟩ := max_real k r j₀ hk
  simp only [hμ, exp_sub]
  have hw : ∀ j, Scalar.select (k j) (Ideal.exp (r j : EReal)) 0 = (((if k j = 1#1 then Real.exp (r j) else 0) : ℝ) : EReal) := by
    intro j
    by_cases h : k j = 1#1
    · rw [select_one h, if_pos h]; rfl
    · rw [select_zero h, if_neg h]; rfl
  have hwv : ∀ j, Scalar.select (k j) (Ideal.exp (r j : EReal) * v j) 0
      = (((if k j = 1#1 then Real.exp (r j) else 0) : ℝ) : EReal) * v j := by
    intro j
    by_cases h : k j = 1#1
    · rw [select_one h, if_pos h]; rfl
    · rw [select_zero h, if_neg h]; simp
  simp only [hw, hwv]
  set p : ι → ℝ := fun j => if k j = 1#1 then Real.exp (r j) else 0 with hp
  have p0 : ∀ j, 0 ≤ p j := fun j => by simp only [hp]; split <;> positivity
  have pj : 0 < p j₀ := by simp only [hp, if_pos hk]; positivity
  have P : 0 < ∑ j, p j := lt_of_lt_of_le pj (Finset.single_le_sum (f := p) (fun j _ => p0 j) (Finset.mem_univ j₀))
  have e : 0 < Real.exp (-μ) := Real.exp_pos _
  rw [← coe_sum, ← coe_sum, ← Finset.sum_mul, div_coe' _ P.ne', sum_mul_coe _ _ (inv_nonneg.2 P.le)]
  refine Finset.sum_congr rfl fun j _ => ?_
  have h : p j * Real.exp (-μ) * ((∑ j, p j) * Real.exp (-μ))⁻¹ = p j * (∑ j, p j)⁻¹ := by field_simp
  rw [div_coe _ (mul_pos P e).ne']
  refine (congrArg (fun z : ℝ => v j * (z : EReal)) h).trans ?_
  show v j * ((p j * (∑ j, p j)⁻¹ : ℝ) : EReal) = (p j : EReal) * v j * (((∑ j, p j)⁻¹ : ℝ) : EReal)
  rw [EReal.coe_mul, ← mul_assoc, mul_comm (v j)]

/-- A row always looks at its own column. -/
theorem keep_self (i : Fin 256) : keep i.val i.val = 1#1 := by
  unfold keep
  have : IntOp.cmpi .sle (IntOp.absi (IntOp.subi (BitVec.ofNat 32 i.val) (BitVec.ofNat 32 i.val))) 128#32 = 1#1 := by
    have : IntOp.subi (BitVec.ofNat 32 i.val) (BitVec.ofNat 32 i.val) = 0#32 := BitVec.sub_self _
    rw [this]; decide
  rw [this]
  exact (by decide : ∀ b : BitVec 1, IntOp.ori 1#1 b = 1#1) _

end Cert.AttnSpec
-- ==== Proof.ValueKernel.lean ====
/-
# What the kernel's vectors hold at an index

Read at the extended reals: the queries, the four rounds of the running sums, the attention output, the partial
products and the result of one device, each at one index and down to the elements of the device's inputs.
-/
module

public import proofs.«01_k».proof.Proof.IdealProto
public import proofs.«01_k».proof.Proof.ValueSpec
public import Idealize.ShloMosaic.Lib.Pointwise
public import Idealize.ShloMosaic.Lib.IdealHost
public import Idealize.ShloMosaic.Lib.Pipeline.ValueKit

@[expose] public section

noncomputable section

namespace Cert.KernelIdealProof

open Cert.KernelIdeal Cert.KernelIdeal.Gen
open Idealize.ShloMosaic
open Idealize.ShloMosaic.TcCoe
open Idealize.SL.Sem
open Cert.AttnSpec (keep)

variable (m : (ℓ : Loc nD τ sig) → Buf (Elt Ideal) ℓ) (c : Dev nD)

/-! ## The words of the mask -/

/-- Whether row `i` looks at column `x` of the block `w` of 256 columns, as the kernel computes it. -/
def keepB (i : ℕ) (w : BitVec 32) (x : ℕ) : BitVec 1 :=
  IntOp.ori
    (IntOp.ori
      (IntOp.cmpi .sle (IntOp.absi (IntOp.subi (BitVec.ofNat 32 i) (IntOp.addi (BitVec.ofNat 32 x) (Scalar.muli w 256#32)))) 128#32)
      (IntOp.cmpi .slt (IntOp.addi (BitVec.ofNat 32 x) (Scalar.muli w 256#32)) 32#32))
    (IntOp.cmpi .slt (BitVec.ofNat 32 i) 32#32)

theorem muli_word (n : ℕ) (w : BitVec 32) (x : ℕ) (h : Scalar.muli w 256#32 = BitVec.ofNat 32 (256 * n)) (i : ℕ) :
    keepB i w x = keep i (256 * n + x) := by
  have e : IntOp.addi (BitVec.ofNat 32 x) (BitVec.ofNat 32 (256 * n)) = BitVec.ofNat 32 (256 * n + x) := by
    rw [Nat.add_comm, BitVec.ofNat_add]; rfl
  unfold keepB keep
  rw [h, e]
  exact BitVec.or_assoc _ _ _

theorem keepB_0 (i x : ℕ) : keepB i (backW c 0#32) x = keep i (256 * (c - 0).val + x) := muli_word _ _ _ (by revert c; decide) _
theorem keepB_1 (i x : ℕ) : keepB i (backW c 1#32) x = keep i (256 * (c - 1).val + x) := muli_word _ _ _ (by revert c; decide) _
theorem keepB_2 (i x : ℕ) : keepB i (backW c 2#32) x = keep i (256 * (c - 2).val + x) := muli_word _ _ _ (by revert c; decide) _
theorem keepB_3 (i x : ℕ) : keepB i (backW c 3#32) x = keep i (256 * (c - 3).val + x) := muli_word _ _ _ (by revert c; decide) _

/-! ## The rounds -/

/-- The scaled score of query row `i` of row block `g` against key `x` of a landed block `l`. -/
def sc (q : FVec Ideal S8x256x64 .bf16) (l : Vec Ideal S1x2x2x256x4x64 .bf16) (g : Fin 8) (i : Fin 256) (x : Fin 256) : EReal :=
  (∑ d : Fin 64, q (ix3 g i d) * l (ix6 0 0 ⟨g.val / 4, by omega⟩ x ⟨g.val % 4, by omega⟩ d)) * Ideal.ofBits FTy.f32 1040187392#32

/-- One round's summand of the sum of weights. -/
def wsum (q : FVec Ideal S8x256x64 .bf16) (l : Vec Ideal S1x2x2x256x4x64 .bf16) (w : BitVec 32) (g : Fin 8) (i : Fin 256) : EReal :=
  ∑ x : Fin 256, Scalar.select (keepB i.val w x.val) (Ideal.exp (sc q l g i x)) 0

/-- One round's summand of the sum of weighted values. -/
def vsum (q : FVec Ideal S8x256x64 .bf16) (l : Vec Ideal S1x2x2x256x4x64 .bf16) (w : BitVec 32) (g : Fin 8) (i : Fin 256) (d : Fin 64) : EReal :=
  ∑ x : Fin 256, Scalar.select (keepB i.val w x.val)
    (Ideal.exp (sc q l g i x) * l (ix6 0 1 ⟨g.val / 4, by omega⟩ x ⟨g.val % 4, by omega⟩ d)) 0

theorem qb_apply (g : Fin 8) (i : Fin 256) (d : Fin 64) : qb m c (ix3 g i d)
    = ∑ e : Fin 512, in0 m c (ix3 ⟨g.val / 4, by omega⟩ i e) * in1 m c (ix2 e ⟨g.val % 4 * 64 + d.val, by omega⟩) := by
  unfold qb
  pointwise [k0_pay3]
  have h : (g.val / 4 * 256 + i.val) / 256 = g.val / 4 := by omega
  simp only [h]

theorem sum1_apply (g : Fin 8) (i : Fin 256) : sum1 m c (ix2 g i) = wsum (qb m c) (ld7_0 m c) (backW c 0#32) g i := by
  unfold sum1
  pointwise [k0_pay12, k0_pay11, k0_pay5, k0_pay6, k0_pay8, k0_pay9, k0_pay10]
  rfl
theorem acc1_apply (g : Fin 8) (i : Fin 256) (d : Fin 64) : acc1 m c (ix3 g i d) = vsum (qb m c) (ld7_0 m c) (backW c 0#32) g i d := by
  unfold acc1
  pointwise [k0_pay13, k0_pay11, k0_pay4, k0_pay6, k0_pay7, k0_pay8, k0_pay9, k0_pay10]
  rfl
theorem sum2_apply (g : Fin 8) (i : Fin 256) :
    sum2 m c (ix2 g i) = sum1 m c (ix2 g i) + wsum (qb m c) (ld7_1 m c) (backW c 1#32) g i := by
  unfold sum2
  pointwise [k0_pay16, k0_pay15, k0_pay14]
  rfl
theorem acc2_apply (g : Fin 8) (i : Fin 256) (d : Fin 64) :
    acc2 m c (ix3 g i d) = acc1 m c (ix3 g i d) + vsum (qb m c) (ld7_1 m c) (backW c 1#32) g i d := by
  unfold acc2
  pointwise [k0_pay17, k0_pay15, k0_pay14]
  rfl
theorem sum3_apply (g : Fin 8) (i : Fin 256) :
    sum3 m c (ix2 g i) = sum2 m c (ix2 g i) + wsum (qb m c) (ld7_2 m c) (backW c 2#32) g i := by
  unfold sum3
  pointwise [k0_pay25, k0_pay24, k0_pay18, k0_pay20, k0_pay21, k0_pay22, k0_pay23]
  rfl
theorem acc3_apply (g : Fin 8) (i : Fin 256) (d : Fin 64) :
    acc3 m c (ix3 g i d) = acc2 m c (ix3 g i d) + vsum (qb m c) (ld7_2 m c) (backW c 2#32) g i d := by
  unfold acc3
  pointwise [k0_pay26, k0_pay24, k0_pay18, k0_pay19, k0_pay20, k0_pay21, k0_pay22, k0_pay23]
  rfl
theorem ctx_apply (r : Fin 512) (t : Fin 256) : ctx m c (ix2 r t)
    = Ideal.div
        (acc3 m c (ix3 ⟨r.val / 256 * 4 + t.val / 64, by omega⟩ ⟨r.val % 256, by omega⟩ ⟨t.val % 64, by omega⟩)
          + vsum (qb m c) (ld7_3 m c) (backW c 3#32) ⟨r.val / 256 * 4 + t.val / 64, by omega⟩ ⟨r.val % 256, by omega⟩ ⟨t.val % 64, by omega⟩)
        (sum3 m c (ix2 ⟨r.val / 256 * 4 + t.val / 64, by omega⟩ ⟨r.val % 256, by omega⟩)
          + wsum (qb m c) (ld7_3 m c) (backW c 3#32) ⟨r.val / 256 * 4 + t.val / 64, by omega⟩ ⟨r.val % 256, by omega⟩) := by
  unfold ctx
  pointwise [k0_pay27]
  rfl

theorem pbV_apply (r n : Fin 512) : pbV m c (ix2 r n) = ∑ t : Fin 256, ctx m c (ix2 r t) * in4 m c (ix2 t n) := by
  unfold pbV
  pointwise [k0_pay28]

/-! ## The loads -/

theorem in0_apply (b : Fin 2) (i : Fin 256) (e : Fin 512) : in0 m c (ix3 b i e) = m ((c : Thread nD τ).loc main_arg0) (ix3 b i e) := by
  have h : win0_0.index (0 : Fin 1) = ![0, 0, 0] := by decide
  unfold in0
  blk_point [h]
theorem in1_apply (e : Fin 512) (t : Fin 256) : in1 m c (ix2 e t) = m ((c : Thread nD τ).loc main_arg1) (ix2 e t) := by
  have h : win0_1.index (0 : Fin 1) = ![0, 0] := by decide
  unfold in1
  blk_point [h]
theorem in2_apply (b : Fin 2) (x : Fin 256) (h : Fin 16) (d : Fin 64) : in2 m c (ix4 b x h d) = m ((c : Thread nD τ).loc main_arg2) (ix4 b x h d) := by
  have e : win0_2.index (0 : Fin 1) = ![0, 0, 0, 0] := by decide
  unfold in2
  blk_point [e]
theorem in3_apply (b : Fin 2) (x : Fin 256) (h : Fin 16) (d : Fin 64) : in3 m c (ix4 b x h d) = m ((c : Thread nD τ).loc main_arg3) (ix4 b x h d) := by
  have e : win0_3.index (0 : Fin 1) = ![0, 0, 0, 0] := by decide
  unfold in3
  blk_point [e]
theorem in4_apply (t : Fin 256) (n : Fin 512) : in4 m c (ix2 t n) = m ((c : Thread nD τ).loc main_arg4) (ix2 t n) := by
  have h : win0_4.index (0 : Fin 1) = ![0, 0] := by decide
  unfold in4
  blk_point [h]

theorem ld7_0_apply (k b : Fin 2) (x : Fin 256) (h : Fin 4) (d : Fin 64) : ld7_0 m c (ix6 0 k b x h d)
    = kvfV m c (ix6 0 k b x h d) := by
  unfold ld7_0
  rw [View.readAt_apply]
  refine congrArg (kvfV m c) (funext fun a => Fin.ext ?_)
  fin_cases a <;> simp
theorem ld7_1_apply (k b : Fin 2) (x : Fin 256) (h : Fin 4) (d : Fin 64) : ld7_1 m c (ix6 0 k b x h d)
    = kvfV m c (ix6 1 k b x h d) := by
  unfold ld7_1
  rw [View.readAt_apply]
  refine congrArg (kvfV m c) (funext fun a => Fin.ext ?_)
  fin_cases a <;> simp
theorem ld7_2_apply (k b : Fin 2) (x : Fin 256) (h : Fin 4) (d : Fin 64) : ld7_2 m c (ix6 0 k b x h d)
    = kvfV m c (ix6 2 k b x h d) := by
  unfold ld7_2
  rw [View.readAt_apply]
  refine congrArg (kvfV m c) (funext fun a => Fin.ext ?_)
  fin_cases a <;> simp
theorem ld7_3_apply (k b : Fin 2) (x : Fin 256) (h : Fin 4) (d : Fin 64) : ld7_3 m c (ix6 0 k b x h d)
    = kvfV m c (ix6 3 k b x h d) := by
  unfold ld7_3
  rw [View.readAt_apply]
  refine congrArg (kvfV m c) (funext fun a => Fin.ext ?_)
  fin_cases a <;> simp
theorem off4_val : k0_off4 c = ![128 * c.val, 0] := by revert c; decide +kernel
theorem ld8_apply (i : Fin 128) (n : Fin 512) : ld8 m c (ix2 i n) = pbV m c (ix2 ⟨128 * c.val + i.val, by have : c.val < 4 := c.isLt; omega⟩ n) := by
  have h := off4_val c
  unfold ld8
  rw [View.readAt_apply]
  refine congrArg (pbV m c) (funext fun a => Fin.ext ?_)
  match a with
  | ⟨0, _⟩ => show k0_off4 c 0 + 1 * i.val = 128 * c.val + i.val; rw [h]; simp
  | ⟨1, _⟩ => show k0_off4 c 1 + 1 * n.val = n.val; rw [h]; simp
theorem ld9_1_apply (i : Fin 128) (n : Fin 512) : ld9_1 m c (ix3 0 i n) = rsV m c (ix3 1 i n) := by
  unfold ld9_1
  rw [View.readAt_apply]
  refine congrArg (rsV m c) (funext fun a => Fin.ext ?_)
  fin_cases a <;> simp
theorem ld9_2_apply (i : Fin 128) (n : Fin 512) : ld9_2 m c (ix3 0 i n) = rsV m c (ix3 2 i n) := by
  unfold ld9_2
  rw [View.readAt_apply]
  refine congrArg (rsV m c) (funext fun a => Fin.ext ?_)
  fin_cases a <;> simp
theorem ld9_3_apply (i : Fin 128) (n : Fin 512) : ld9_3 m c (ix3 0 i n) = rsV m c (ix3 3 i n) := by
  unfold ld9_3
  rw [View.readAt_apply]
  refine congrArg (rsV m c) (funext fun a => Fin.ext ?_)
  fin_cases a <;> simp
theorem ld11_1_apply (i : Fin 128) (n : Fin 512) : ld11_1 m c (ix3 0 i n) = agV m c (ix3 1 i n) := by
  unfold ld11_1
  rw [View.readAt_apply]
  refine congrArg (agV m c) (funext fun a => Fin.ext ?_)
  fin_cases a <;> simp
theorem ld11_2_apply (i : Fin 128) (n : Fin 512) : ld11_2 m c (ix3 0 i n) = agV m c (ix3 2 i n) := by
  unfold ld11_2
  rw [View.readAt_apply]
  refine congrArg (agV m c) (funext fun a => Fin.ext ?_)
  fin_cases a <;> simp
theorem ld11_3_apply (i : Fin 128) (n : Fin 512) : ld11_3 m c (ix3 0 i n) = agV m c (ix3 3 i n) := by
  unfold ld11_3
  rw [View.readAt_apply]
  refine congrArg (agV m c) (funext fun a => Fin.ext ?_)
  fin_cases a <;> simp

/-! ## The landing buffers, down to the devices they come from -/

theorem kvfV_key (s : Fin 4) (b : Fin 2) (x : Fin 256) (h : Fin 4) (d : Fin 64) : kvfV m c (ix6 s 0 b x h d)
    = m (((c - s : Dev nD) : Thread nD τ).loc main_arg2) (ix4 b x ⟨4 * c.val + h.val, by have : c.val < 4 := c.isLt; omega⟩ d) := by
  have e : kvfV m c (ix6 s 0 b x h d)
      = k0_pay1 (in2 m (c - s)) (ix5 0 b x ⟨4 * c.val + h.val, by have : c.val < 4 := c.isLt; omega⟩ d) := by unfold kvfV kvsV; exact if_pos rfl
  rw [e]
  refine Eq.trans ?_ (in2_apply m (c - s) b x ⟨4 * c.val + h.val, by have : c.val < 4 := c.isLt; omega⟩ d)
  pointwise [k0_pay1]
theorem kvfV_value (s : Fin 4) (b : Fin 2) (x : Fin 256) (h : Fin 4) (d : Fin 64) : kvfV m c (ix6 s 1 b x h d)
    = m (((c - s : Dev nD) : Thread nD τ).loc main_arg3) (ix4 b x ⟨4 * c.val + h.val, by have : c.val < 4 := c.isLt; omega⟩ d) := by
  have e : kvfV m c (ix6 s 1 b x h d)
      = k0_pay2 (in3 m (c - s)) (ix5 0 b x ⟨4 * c.val + h.val, by have : c.val < 4 := c.isLt; omega⟩ d) := by unfold kvfV kvsV; exact if_neg (show ¬ ((1 : Fin 2).val = 0) by decide)
  rw [e]
  refine Eq.trans ?_ (in3_apply m (c - s) b x ⟨4 * c.val + h.val, by have : c.val < 4 := c.isLt; omega⟩ d)
  pointwise [k0_pay2]
theorem rsV_apply (s : Fin 4) (i : Fin 128) (n : Fin 512) : rsV m c (ix3 s i n)
    = pbV m (c - s) (ix2 ⟨128 * c.val + i.val, by have : c.val < 4 := c.isLt; omega⟩ n) := rfl
theorem agV_apply (s : Fin 4) (i : Fin 128) (n : Fin 512) : agV m c (ix3 s i n) = redV m (c - s) (ix2 i n) := rfl

theorem redF_apply (i : Fin 128) (n : Fin 512) : redF m c (ix2 i n)
    = ∑ s : Fin 4, pbV m s (ix2 ⟨128 * c.val + i.val, by have : c.val < 4 := c.isLt; omega⟩ n) := by
  rw [← Cert.AttnSpec.sum_back c]
  unfold redF
  pointwise [k0_pay29]
  rw [ld8_apply, ld9_1_apply, ld9_2_apply, ld9_3_apply, rsV_apply, rsV_apply, rsV_apply]
theorem redV_apply (i : Fin 128) (n : Fin 512) : redV m c (ix2 i n)
    = ∑ s : Fin 4, pbV m s (ix2 ⟨128 * c.val + i.val, by have : c.val < 4 := c.isLt; omega⟩ n) := by
  rw [← Cert.AttnSpec.sum_back c]
  unfold redV
  pointwise [k0_pay30, k0_pay29]
  rw [ld8_apply, ld9_1_apply, ld9_2_apply, ld9_3_apply, rsV_apply, rsV_apply, rsV_apply]

/-- The result of every device: row `i` of batch `b` of the four partial products, summed. -/
theorem outV_apply (b : Fin 2) (i : Fin 256) (n : Fin 512) : outV m c (ix3 b i n)
    = ∑ s : Fin 4, pbV m s (ix2 ⟨256 * b.val + i.val, by omega⟩ n) := by
  have key : ∀ e : Dev nD, 2 * b.val + i.val / 128 = e.val →
      (⟨128 * e.val + i.val % 128, by have : e.val < 4 := e.isLt; omega⟩ : Fin 512) = ⟨256 * b.val + i.val, by omega⟩ := by
    intro e h
    refine Fin.ext ?_
    show 128 * e.val + i.val % 128 = 256 * b.val + i.val
    rw [← h]; omega
  have e1 : (c - 1 : Dev nD).val = (c.val + 3) % 4 := by revert c; decide
  have e2 : (c - 2 : Dev nD).val = (c.val + 2) % 4 := by revert c; decide
  have e3 : (c - 3 : Dev nD).val = (c.val + 1) % 4 := by revert c; decide
  unfold outV
  pointwise [k0_pay31, k0_pay32, k0_pay33, k0_pay34, k0_pay35, k0_pay36]
  have hc : c.val < 4 := c.isLt
  split
  · next h => exact (redF_apply m c ⟨i.val % 128, by omega⟩ n).trans (by rw [key c h])
  · split
    · next h => exact (ld11_1_apply m c ⟨i.val % 128, by omega⟩ n).trans ((redV_apply m (c - 1) ⟨i.val % 128, by omega⟩ n).trans (by rw [key (c - 1) (by omega)]))
    · split
      · next h => exact (ld11_2_apply m c ⟨i.val % 128, by omega⟩ n).trans ((redV_apply m (c - 2) ⟨i.val % 128, by omega⟩ n).trans (by rw [key (c - 2) (by omega)]))
      · exact (ld11_3_apply m c ⟨i.val % 128, by omega⟩ n).trans ((redV_apply m (c - 3) ⟨i.val % 128, by omega⟩ n).trans (by rw [key (c - 3) (by omega)]))

end Cert.KernelIdealProof
-- ==== Proof.ValueWhole.lean ====
/-
# One device's result against the whole arrays

The four rounds of a device read the keys and values of all four devices, so that its attention output is that of its
own four heads over all 1024 keys; the sum of the four partial products is then the whole result.
-/
module

public import proofs.«01_k».proof.Proof.ValueKernel

@[expose] public section

noncomputable section

namespace Cert.KernelIdealProof

open Cert.KernelIdeal Cert.KernelIdeal.Gen
open Idealize.ShloMosaic
open Idealize.ShloMosaic.TcCoe
open Idealize.SL.Sem
open Cert.AttnSpec (keep)

variable (m : (ℓ : Loc nD τ sig) → Buf (Elt Ideal) ℓ) (c : Dev nD)

/-! ## The rounds, against the whole arrays -/

section Whole
open Cert.AttnSpec (Arr SX SQ SK SO score)

/-- The head of row block `g` on device `c`. -/
def headOf (c : Fin 4) (g : Fin 8) : Fin 16 := ⟨4 * c.val + g.val % 4, by omega⟩
/-- The key number `x` of device `e`. -/
def keyOf (e : Fin 4) (x : Fin 256) : Fin 1024 := ⟨256 * e.val + x.val, by omega⟩

/-- The blocks of the whole arrays that the devices hold. -/
structure Holds (X : Arr SX) (WQ : Arr SQ) (KK VV : Arr SK) (WO : Arr SO) : Prop where
  x : ∀ (c : Dev nD) (b : Fin 2) (i : Fin 256) (e : Fin 512), m ((c : Thread nD τ).loc main_arg0) (ix3 b i e) = X (ix3 b i e)
  wq : ∀ (c : Dev nD) (e : Fin 512) (t : Fin 256),
    m ((c : Thread nD τ).loc main_arg1) (ix2 e t) = WQ (ix2 e ⟨256 * c.val + t.val, by have : c.val < 4 := c.isLt; omega⟩)
  k : ∀ (c : Dev nD) (b : Fin 2) (x : Fin 256) (h : Fin 16) (d : Fin 64),
    m ((c : Thread nD τ).loc main_arg2) (ix4 b x h d) = KK (ix4 b ⟨256 * c.val + x.val, by have : c.val < 4 := c.isLt; omega⟩ h d)
  v : ∀ (c : Dev nD) (b : Fin 2) (x : Fin 256) (h : Fin 16) (d : Fin 64),
    m ((c : Thread nD τ).loc main_arg3) (ix4 b x h d) = VV (ix4 b ⟨256 * c.val + x.val, by have : c.val < 4 := c.isLt; omega⟩ h d)
  wo : ∀ (c : Dev nD) (t : Fin 256) (n : Fin 512),
    m ((c : Thread nD τ).loc main_arg4) (ix2 t n) = WO (ix2 ⟨256 * c.val + t.val, by have : c.val < 4 := c.isLt; omega⟩ n)

variable {m} {X : Arr SX} {WQ : Arr SQ} {KK VV : Arr SK} {WO : Arr SO} (H : Holds m X WQ KK VV WO)
include H

theorem sc_eq (l : Vec Ideal S1x2x2x256x4x64 .bf16) (s : Fin 4) (hl : ∀ b x h d, l (ix6 0 0 b x h d) = kvfV m c (ix6 s 0 b x h d))
    (g : Fin 8) (i x : Fin 256) :
    sc (qb m c) l g i x = score X WQ KK ⟨g.val / 4, by omega⟩ i (headOf c g) (keyOf (c - s) x) := by
  unfold sc score
  congr 1
  refine Finset.sum_congr rfl fun d _ => ?_
  rw [hl, kvfV_key, H.k, qb_apply]
  congr 1
  refine Finset.sum_congr rfl fun e _ => ?_
  rw [in0_apply, in1_apply, H.x, H.wq]
  congr 3
  refine Fin.ext ?_
  show 256 * c.val + (g.val % 4 * 64 + d.val) = (4 * c.val + g.val % 4) * 64 + d.val
  omega

theorem wsum_eq (l : Vec Ideal S1x2x2x256x4x64 .bf16) (s : Fin 4) (hl : ∀ k b x h d, l (ix6 0 k b x h d) = kvfV m c (ix6 s k b x h d))
    (w : BitVec 32) (hw : ∀ i x : ℕ, keepB i w x = keep i (256 * (c - s : Fin 4).val + x)) (g : Fin 8) (i : Fin 256) :
    wsum (qb m c) l w g i = ∑ x : Fin 256, Scalar.select (keep i.val (keyOf (c - s) x).val)
      (Ideal.exp (score X WQ KK ⟨g.val / 4, by omega⟩ i (headOf c g) (keyOf (c - s) x))) 0 := by
  unfold wsum
  refine Finset.sum_congr rfl fun x _ => ?_
  rw [hw, sc_eq c H l s (hl 0)]
  rfl

theorem vsum_eq (l : Vec Ideal S1x2x2x256x4x64 .bf16) (s : Fin 4) (hl : ∀ k b x h d, l (ix6 0 k b x h d) = kvfV m c (ix6 s k b x h d))
    (w : BitVec 32) (hw : ∀ i x : ℕ, keepB i w x = keep i (256 * (c - s : Fin 4).val + x)) (g : Fin 8) (i : Fin 256) (d : Fin 64) :
    vsum (qb m c) l w g i d = ∑ x : Fin 256, Scalar.select (keep i.val (keyOf (c - s) x).val)
      (Ideal.exp (score X WQ KK ⟨g.val / 4, by omega⟩ i (headOf c g) (keyOf (c - s) x))
        * VV (ix4 ⟨g.val / 4, by omega⟩ (keyOf (c - s) x) (headOf c g) d)) 0 := by
  unfold vsum
  refine Finset.sum_congr rfl fun x _ => ?_
  rw [hw, sc_eq c H l s (hl 0), hl, kvfV_value, H.v]
  rfl

/-- The sum of weights after the four rounds is the sum over all keys. -/
theorem den_eq (g : Fin 8) (i : Fin 256) :
    sum3 m c (ix2 g i) + wsum (qb m c) (ld7_3 m c) (backW c 3#32) g i
      = ∑ j : Fin 1024, Scalar.select (keep i.val j.val) (Ideal.exp (score X WQ KK ⟨g.val / 4, by omega⟩ i (headOf c g) j)) 0 := by
  rw [sum3_apply, sum2_apply, sum1_apply,
    wsum_eq c H _ 0 (ld7_0_apply m c) _ (keepB_0 c), wsum_eq c H _ 1 (ld7_1_apply m c) _ (keepB_1 c),
    wsum_eq c H _ 2 (ld7_2_apply m c) _ (keepB_2 c), wsum_eq c H _ 3 (ld7_3_apply m c) _ (keepB_3 c),
    Cert.AttnSpec.sum_blocks, ← Cert.AttnSpec.sum_back c]
  rw [show (c - 0 : Fin 4) = c from sub_zero c]
  rfl

/-- The sum of weighted values after the four rounds is the sum over all keys. -/
theorem num_eq (g : Fin 8) (i : Fin 256) (d : Fin 64) :
    acc3 m c (ix3 g i d) + vsum (qb m c) (ld7_3 m c) (backW c 3#32) g i d
      = ∑ j : Fin 1024, Scalar.select (keep i.val j.val) (Ideal.exp (score X WQ KK ⟨g.val / 4, by omega⟩ i (headOf c g) j)
          * VV (ix4 ⟨g.val / 4, by omega⟩ j (headOf c g) d)) 0 := by
  rw [acc3_apply, acc2_apply, acc1_apply,
    vsum_eq c H _ 0 (ld7_0_apply m c) _ (keepB_0 c), vsum_eq c H _ 1 (ld7_1_apply m c) _ (keepB_1 c),
    vsum_eq c H _ 2 (ld7_2_apply m c) _ (keepB_2 c), vsum_eq c H _ 3 (ld7_3_apply m c) _ (keepB_3 c),
    Cert.AttnSpec.sum_blocks, ← Cert.AttnSpec.sum_back c]
  rw [show (c - 0 : Fin 4) = c from sub_zero c]
  rfl

/-- The device's attention output is that of its four heads. -/
theorem ctx_eq (b : Fin 2) (i : Fin 256) (t : Fin 256) : ctx m c (ix2 ⟨256 * b.val + i.val, by omega⟩ t)
    = Cert.AttnSpec.ctx X WQ KK VV b i ⟨(256 * c.val + t.val) / 64, by have : c.val < 4 := c.isLt; omega⟩ ⟨(256 * c.val + t.val) % 64, by omega⟩ := by
  rw [ctx_apply, num_eq c H, den_eq c H]
  unfold Cert.AttnSpec.ctx
  have hb : (⟨((256 * b.val + i.val) / 256 * 4 + t.val / 64) / 4, by omega⟩ : Fin 2) = b := Fin.ext (by show _ / 4 = _; omega)
  have hi : (⟨(256 * b.val + i.val) % 256, by omega⟩ : Fin 256) = i := Fin.ext (by show _ % 256 = _; omega)
  have hh : headOf c ⟨(256 * b.val + i.val) / 256 * 4 + t.val / 64, by omega⟩
      = ⟨(256 * c.val + t.val) / 64, by have : c.val < 4 := c.isLt; omega⟩ := Fin.ext (by
    show 4 * c.val + ((256 * b.val + i.val) / 256 * 4 + t.val / 64) % 4 = (256 * c.val + t.val) / 64; omega)
  have hd : (⟨t.val % 64, by omega⟩ : Fin 64) = ⟨(256 * c.val + t.val) % 64, by omega⟩ := Fin.ext (by
    show t.val % 64 = (256 * c.val + t.val) % 64; omega)
  rw [hb, hi, hh, hd]

/-- Every device's result is the attention's. -/
theorem outV_eq (b : Fin 2) (i : Fin 256) (n : Fin 512) : outV m c (ix3 b i n) = Cert.AttnSpec.out X WQ KK VV WO b i n := by
  rw [outV_apply]
  unfold Cert.AttnSpec.out
  rw [Cert.AttnSpec.sum_blocks]
  refine Finset.sum_congr rfl fun s _ => ?_
  rw [pbV_apply]
  refine Finset.sum_congr rfl fun t _ => ?_
  rw [ctx_eq s H, in4_apply, H.wo]

end Whole

end Cert.KernelIdealProof
-- ==== Proof.ValueReference.lean ====
/-
# The reference's result at an index

The reference's result, read at one index, is the attention of its argument arrays as long as every score is a real
number.
-/
module

public import proofs.«01_k».proof.Proof.Gen.ReferenceIdeal.Run
public import proofs.«01_k».proof.Proof.ValueSpec

@[expose] public section

noncomputable section

namespace Cert.ReferenceProof

open Cert.ReferenceIdeal Cert.ReferenceIdeal.Gen
open Idealize.ShloMosaic
open Idealize.ShloMosaic.TcCoe
open Idealize.SL.Sem
open Cert.AttnSpec (Arr SX SQ SK SO keep score)

variable (m : (ℓ : Loc nD τ sig) → Buf (Elt Ideal) ℓ) (c : Dev nD)

/-- The reference's arguments. -/
abbrev aX : Arr SX := m ((c : Thread nD τ).loc main_arg0)
abbrev aQ : Arr SQ := m ((c : Thread nD τ).loc main_arg1)
abbrev aK : Arr SK := m ((c : Thread nD τ).loc main_arg2)
abbrev aV : Arr SK := m ((c : Thread nD τ).loc main_arg3)
abbrev aO : Arr SO := m ((c : Thread nD τ).loc main_arg4)

/-- The word of minus infinity. -/
theorem ofBits_neg_inf : Ideal.ofBits FTy.f32 4286578688#32 = ⊥ := by
  simp [Ideal.ofBits, Ideal.ieee]

/-- The reference's result at an index is the attention of its arguments, where every score is a real number. -/
theorem result_apply (hs : ∀ b i h j, ∃ r : ℝ, score (aX m c) (aQ m c) (aK m c) b i h j = r) (b : Fin 2) (i : Fin 256) (n : Fin 512) :
    @Eq EReal ((Cert.ReferenceIdeal.Value.res_main_v42 m c : Vec Ideal S2x256x512 .f32) (ix3 b i n))
      (Cert.AttnSpec.out (aX m c) (aQ m c) (aK m c) (aV m c) (aO m c) b i n) := by
  have hany : Finset.fold IntOp.ori (0#1) (fun x : Fin 1024 => keep i.val x.val) Finset.univ = 1#1 :=
    (Idealize.ShloMosaic.Routing.fold_ori _ _).2 ⟨⟨i.val, by omega⟩, Finset.mem_univ _, Cert.AttnSpec.keep_self i⟩
  have hinf : @Eq EReal (id (constant (F := Ideal) S_ FTy.f32 4286578688#32) ix0) ⊥ := ofBits_neg_inf
  have hsel : ∀ (a b : EReal), Scalar.select 1#1 a b = a := fun a b => rfl
  have hmix := fun t : Fin 1024 => Cert.AttnSpec.softmax_mix (fun j : Fin 1024 => keep i.val j.val)
    (fun j => score (aX m c) (aQ m c) (aK m c) b i ⟨t.val / 64, by omega⟩ j)
    (fun j => aV m c (ix4 b j ⟨t.val / 64, by omega⟩ ⟨t.val % 64, by omega⟩)) (fun j => hs _ _ _ _)
    ⟨i.val, by omega⟩ (Cert.AttnSpec.keep_self i)
  unfold Cert.AttnSpec.out Cert.AttnSpec.ctx
  simp only [← hmix]
  clear hmix hs
  unfold Value.res_main_v42
  pointwise
  unfold keep at hany
  simp only [hany, hinf, hsel, ofBits_neg_inf]
  unfold score keep aX aQ aK aV aO
  rfl

end Cert.ReferenceProof
-- ==== Proof.ValueAlgebra.lean ====
/-
# The kernel's result is the reference's

From the precondition every element of the queries' and keys' inputs is a real number, so that every score is one; the
devices' blocks make up the reference's arrays; and both results are the same attention.
-/
module

public import proofs.«01_k».proof.Defs
public import proofs.«01_k».proof.Proof.Gen.Kernel
public import proofs.«01_k».proof.Proof.ValueWhole
public import proofs.«01_k».proof.Proof.ValueReference
public import proofs.«01_k».proof.Proof.IdealLaunch
public import Idealize.ShloMosaic.Lib.ReduceAll
public import Idealize.ShloMosaic.Lib.Layout
public import Idealize.ShloMosaic.Lib.Pipeline.ValueKit

@[expose] public section

noncomputable section

namespace Cert.ValueProof

open Idealize.ShloMosaic
open Idealize.ShloMosaic.TcCoe
open Idealize.SL.Sem
open Cert.AttnSpec (Arr SX SQ SK SO keep score)

/-! ## The precondition -/

/-- The side conditions of the precondition over the kernel's arguments. -/
theorem factsK : Cert.Pre_finite_scores_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x16x64 := by decide
  reducesTo_S2x256x16x64_S_d0_1_2_3 := by decide

/-- The side conditions of the precondition over the reference's arguments. -/
theorem factsR : Cert.Pre_finite_scores_ReferenceIdeal.Facts where
  bcast_S_S2x256x512 := by decide
  reducesTo_S2x256x512_S_d0_1_2 := by decide
  h_S_ := by decide
  bcast_S_S512x1024 := by decide
  reducesTo_S512x1024_S_d0_1 := by decide
  bcast_S_S2x1024x16x64 := by decide
  reducesTo_S2x1024x16x64_S_d0_1_2_3 := by decide

/-- The word of plus infinity. -/
theorem ofBits_inf : Ideal.ofBits FTy.f32 2139095040#32 = ⊤ := by
  simp [Ideal.ofBits, Ideal.ieee]

/-- A number of absolute value below plus infinity is a real number. -/
theorem real_of_abs {x : EReal} (h : max x (-x) < ⊤) : ∃ r : ℝ, x = r := by
  induction x using EReal.rec with
  | bot => simp at h
  | top => simp at h
  | coe r => exact ⟨r, rfl⟩

instance : Subsingleton (Cert.Pre_finite_scores_KernelIdeal.S_).Idx := ⟨fun _ _ => funext fun a => a.elim0⟩

/-- Where the comparison of an absolute value with plus infinity is one, the element is a real number. -/
theorem real_of_cmp {x : EReal} (h : Ideal.cmp .olt (max x (-x)) (Ideal.ofBits FTy.f32 2139095040#32) = 1#1) : ∃ r : ℝ, x = r := by
  rw [ofBits_inf] at h
  exact real_of_abs ((Ideal.cmp_olt_eq_one _ _).1 h)

/-- What the precondition says of one device's arguments: its inputs, its part of the queries' weights and its keys are
    real numbers. -/
theorem pre_real (x : Vec Ideal Cert.Pre_finite_scores_KernelIdeal.S2x256x512 .f32) (wq : Vec Ideal Cert.Pre_finite_scores_KernelIdeal.S512x256 .f32)
    (k v : Vec Ideal Cert.Pre_finite_scores_KernelIdeal.S2x256x16x64 .f32) (wo : Vec Ideal Cert.Pre_finite_scores_KernelIdeal.S256x512 .f32)
    (h : (letI := factsK; Cert.Pre_finite_scores_KernelIdeal.fn (F := Ideal) x wq k v wo) = fun _ => 1#1) :
    (∀ i, ∃ r : ℝ, @Eq EReal (x i) r) ∧ (∀ i, ∃ r : ℝ, @Eq EReal (wq i) r) ∧ (∀ i, ∃ r : ℝ, @Eq EReal (k i) r) := by
  have h0 := congrFun h (fun a => a.elim0)
  dsimp only [Cert.Pre_finite_scores_KernelIdeal.fn] at h0
  obtain ⟨h1, hk⟩ := IntOp.andi_eq_one.1 h0
  obtain ⟨hx, hq⟩ := IntOp.andi_eq_one.1 h1
  exact ⟨fun i => real_of_cmp (Host.reduce_andi_all _ _ _ _ _ hx i), fun i => real_of_cmp (Host.reduce_andi_all _ _ _ _ _ hq i),
    fun i => real_of_cmp (Host.reduce_andi_all _ _ _ _ _ hk i)⟩

/-! ## The scores are real numbers -/

/-- The scale of the scores is a real number. -/
theorem eighth_real : ∃ r : ℝ, Ideal.ofBits FTy.f32 1040187392#32 = r := by
  refine ⟨1 / 8, ?_⟩
  simp [Ideal.ofBits, Ideal.ieee]
  rw [← EReal.coe_mul]
  norm_num

/-- Scores of real inputs, weights and keys are real numbers. -/
theorem score_real (X : Arr SX) (WQ : Arr SQ) (KK : Arr SK) (hx : ∀ b i e, ∃ r : ℝ, X (ix3 b i e) = r) (hq : ∀ e t, ∃ r : ℝ, WQ (ix2 e t) = r)
    (hk : ∀ b j h d, ∃ r : ℝ, KK (ix4 b j h d) = r) (b : Fin 2) (i : Fin 256) (h : Fin 16) (j : Fin 1024) :
    ∃ r : ℝ, score X WQ KK b i h j = r := by
  unfold score
  exact Cert.AttnSpec.mul_real (Cert.AttnSpec.sum_real _ _ fun d => Cert.AttnSpec.mul_real
    (Cert.AttnSpec.sum_real _ _ fun e => Cert.AttnSpec.mul_real (hx ..) (hq ..)) (hk ..)) eighth_real

/-! ## The result's array -/

/-- After the run the result's array holds what the body stored. -/
theorem final_out (m : (ℓ : Loc Cert.KernelIdeal.nD Cert.KernelIdeal.τ Cert.KernelIdeal.sig) → Buf (Elt Ideal) ℓ) (c : Dev Cert.KernelIdeal.nD) :
    Cert.KernelIdealProof.final m c 5 = Cert.KernelIdealProof.outV m c := by
  refine (Cert.KernelIdealProof.dats m 0 c).arrAt_eq_of_after_last 5 Cert.KernelIdeal.Gen.t0_0 (by decide +kernel) _ fun j => ?_
  blk_simp
  rfl

/-! ## Both programs from memories that agree -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Each device's arguments are its parts of the reference's. -/
def Agree : Prop := ∀ c : Dev Cert.KernelIdeal.nD,
  m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
  ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
  ∧ m ((c.tc : Thread Cert.KernelIdeal.nD Cert.KernelIdeal.τ).loc Cert.KernelIdeal.main_arg2) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg2))
  ∧ m ((c.tc : Thread Cert.KernelIdeal.nD Cert.KernelIdeal.τ).loc Cert.KernelIdeal.main_arg3) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg3))
  ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))

variable {m m'}

/-- The element of a device's part of the queries' weights, in the whole array. -/
theorem cols_idx (c : Fin 4) (e : Fin 512) (t : Fin 256) (hT : Layout.Tiles ⟨2, ![512, 256]⟩ ⟨2, ![512, 1024]⟩ 1 4) :
    hT.idx c (ix2 e t) = ix2 e ⟨256 * c.val + t.val, by omega⟩ := by
  funext b
  refine Fin.ext ?_
  rw [Layout.Tiles.idx_val]
  match b with
  | ⟨0, _⟩ => rfl
  | ⟨1, _⟩ => show c.val * 256 + t.val = 256 * c.val + t.val; omega

/-- The element of a device's part of the output weights, in the whole array. -/
theorem rows_idx (c : Fin 4) (t : Fin 256) (n : Fin 512) (hT : Layout.Tiles ⟨2, ![256, 512]⟩ ⟨2, ![1024, 512]⟩ 0 4) :
    hT.idx c (ix2 t n) = ix2 ⟨256 * c.val + t.val, by omega⟩ n := by
  funext b
  refine Fin.ext ?_
  rw [Layout.Tiles.idx_val]
  match b with
  | ⟨0, _⟩ => show c.val * 256 + t.val = 256 * c.val + t.val; omega
  | ⟨1, _⟩ => rfl

/-- The element of a device's keys or values, in the whole array. -/
theorem keys_idx (c : Fin 4) (b : Fin 2) (x : Fin 256) (h : Fin 16) (d : Fin 64)
    (hT : Layout.Tiles ⟨4, ![2, 256, 16, 64]⟩ ⟨4, ![2, 1024, 16, 64]⟩ 1 4) :
    hT.idx c (ix4 b x h d) = ix4 b ⟨256 * c.val + x.val, by omega⟩ h d := by
  funext a
  refine Fin.ext ?_
  rw [Layout.Tiles.idx_val]
  match a with
  | ⟨0, _⟩ => rfl
  | ⟨1, _⟩ => show c.val * 256 + x.val = 256 * c.val + x.val; omega
  | ⟨2, _⟩ => rfl
  | ⟨3, _⟩ => rfl

variable (hA : Agree m m')
include hA

open Cert.ReferenceProof (aX aQ aK aV aO)

/-- The devices' arguments are their parts of the reference's, at an index. -/
theorem holds : Cert.KernelIdealProof.Holds m (aX m' 0) (aQ m' 0) (aK m' 0) (aV m' 0) (aO m' 0) where
  x c b i e := congrFun (hA c).1 (ix3 b i e)
  wq c e t := (congrFun (hA c).2.1 (ix2 e t)).trans (congrArg (aQ m' 0) (cols_idx c e t _))
  k c b x h d := (congrFun (hA c).2.2.1 (ix4 b x h d)).trans (congrArg (aK m' 0) (keys_idx c b x h d _))
  v c b x h d := (congrFun (hA c).2.2.2.1 (ix4 b x h d)).trans (congrArg (aV m' 0) (keys_idx c b x h d _))
  wo c t n := (congrFun (hA c).2.2.2.2 (ix2 t n)).trans (congrArg (aO m' 0) (rows_idx c t n _))

variable (hP : letI := factsK; Cert.Pre_KernelIdeal_finite_scores_KernelIdeal m)
include hP

/-- Under the precondition every score of the reference's arrays is a real number. -/
theorem scores (b : Fin 2) (i : Fin 256) (h : Fin 16) (j : Fin 1024) : ∃ r : ℝ, score (aX m' 0) (aQ m' 0) (aK m' 0) b i h j = r := by
  have H := holds hA
  refine score_real _ _ _ (fun b i e => ?_) (fun e t => ?_) (fun b j h d => ?_) b i h j
  · obtain ⟨r, hr⟩ := (pre_real _ _ _ _ _ (hP 0)).1 (ix3 b i e)
    exact ⟨r, (H.x 0 b i e).symm.trans hr⟩
  · obtain ⟨r, hr⟩ := (pre_real _ _ _ _ _ (hP (⟨t.val / 256, by omega⟩ : Fin 4))).2.1 (ix2 e ⟨t.val % 256, by omega⟩)
    refine ⟨r, Eq.trans ?_ hr⟩
    rw [H.wq (⟨t.val / 256, by omega⟩ : Fin 4) e ⟨t.val % 256, by omega⟩]
    exact congrArg (fun t => aQ m' 0 (ix2 e t)) (Fin.ext (Nat.div_add_mod t.val 256).symm)
  · obtain ⟨r, hr⟩ := (pre_real _ _ _ _ _ (hP (⟨j.val / 256, by omega⟩ : Fin 4))).2.2 (ix4 b ⟨j.val % 256, by omega⟩ h d)
    refine ⟨r, Eq.trans ?_ hr⟩
    rw [H.k (⟨j.val / 256, by omega⟩ : Fin 4) b ⟨j.val % 256, by omega⟩ h d]
    exact congrArg (fun j => aK m' 0 (ix4 b j h d)) (Fin.ext (Nat.div_add_mod j.val 256).symm)

/-- Every device's result is the reference's. -/
theorem result_eq (c : Dev Cert.KernelIdeal.nD) :
    Cert.KernelIdealProof.outV m c = (Cert.ReferenceIdeal.Value.res_main_v42 m' 0 : Vec Ideal Cert.ReferenceIdeal.S2x256x512 .f32) := by
  funext j
  rw [← ix3_eta j]
  exact (Cert.KernelIdealProof.outV_eq c (holds hA) _ _ _).trans
    (Cert.ReferenceProof.result_apply m' 0 (scores hA hP) _ _ _).symm

end Agree

end Cert.ValueProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernLaunch
public import proofs.«01_k».proof.Proof.IdealLaunch
public import proofs.«01_k».proof.Proof.ValueAlgebra
public import Idealize.ShloMosaic.Adequacy
public import Idealize.ShloMosaic.Init

@[expose] public section

noncomputable section

namespace Cert.Proof

open Idealize.ShloMosaic Idealize.SL.Sem Cert.Kernel

/-- The kernel as printed: every run ends, its arguments unchanged, every semaphore back at zero. -/
theorem frame_kernel : Cert.quiescent_Kernel :=
  fun m g _ => Cert.KernelProof.run_frame m g

/-- The kernel over the extended reals: every run ends, its arguments unchanged, every semaphore back at zero. -/
theorem frame_ideal : Cert.quiescent_KernelIdeal :=
  fun m g _ => Cert.KernelIdealProof.run_frame m g

/-- The reference: every run ends, its arguments unchanged, every semaphore back at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel over the extended reals, from arguments whose scores are finite: the run of any arguments. -/
theorem frame_ideal_finite (hP : Cert.Pre_finite_scores_KernelIdeal.Facts) :
    Cert.quiescent_KernelIdeal_pre_finite_scores_KernelIdeal (hPre_finite_scores_KernelIdeal := hP) :=
  fun m g _ => Cert.KernelIdealProof.run_frame m g

/-- The reference, from arguments whose scores are finite: the run of any arguments. -/
theorem frame_reference_finite (hP : Cert.Pre_finite_scores_ReferenceIdeal.Facts) :
    Cert.quiescent_ReferenceIdeal_pre_finite_scores_ReferenceIdeal (hPre_finite_scores_ReferenceIdeal := hP) :=
  fun m g _ => frame_reference m g trivial

/-- From arguments that agree, where the inputs, the queries' weights and the keys are finite, both programs run, every
    device's result is the reference's result, and the arguments of both are unchanged. -/
theorem same_result : Cert.algebraic_KernelIdeal_ReferenceIdeal_pre_finite_scores_KernelIdeal
    (hPre_finite_scores_KernelIdeal := Cert.ValueProof.factsK) := by
  intro m g m' g' hP hA
  refine ⟨Cert.ReferenceIdeal.Value.res_main_v42 m' 0,
    (θ_run Cert.KernelIdeal.defs _ _).mono (fun r h c => ?_) (Cert.KernelIdealProof.run_main m g),
    (θ_run Cert.ReferenceIdeal.defs _ _).mono (fun r h => h 0) (Cert.ReferenceIdeal.Value.run (F := Ideal) m' g')⟩
  exact ⟨(h.1 c 5).trans ((Cert.ValueProof.final_out m c).trans (Cert.ValueProof.result_eq hA hP c)),
    (h.1 c 0).trans ((Cert.KernelIdealProof.dats m 0 c).arrAt_in 0 rfl _),
    (h.1 c 1).trans ((Cert.KernelIdealProof.dats m 0 c).arrAt_in 1 rfl _),
    (h.1 c 2).trans ((Cert.KernelIdealProof.dats m 0 c).arrAt_in 2 rfl _),
    (h.1 c 3).trans ((Cert.KernelIdealProof.dats m 0 c).arrAt_in 3 rfl _),
    (h.1 c 4).trans ((Cert.KernelIdealProof.dats m 0 c).arrAt_in 4 rfl _)⟩

/-- All the claims. -/
theorem claim : Cert.Claim := ⟨Cert.Kernel.Gen.facts, Cert.KernelIdeal.Gen.facts, Cert.ReferenceIdeal.Gen.facts,
  Cert.ValueProof.factsK, Cert.ValueProof.factsR,
  frame_kernel, frame_ideal, frame_ideal_finite _, frame_reference, frame_reference_finite _, trivial, same_result⟩

end Cert.Proof

end
